-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x3A2AAAAB#32 ((1 / 1536 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x7x256x768 : Shape := ⟨4, ![8, 7, 256, 768]⟩
abbrev S8x7x256x96 : Shape := ⟨4, ![8, 7, 256, 96]⟩
abbrev S8 : Shape := ⟨1, ![8]⟩
abbrev S1536 : Shape := ⟨1, ![1536]⟩
abbrev S7x256x1536 : Shape := ⟨3, ![7, 256, 1536]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S1536 : S_.BroadcastsInDim S1536 (![] : Fin 0 → Fin S1536.rank)
  reducesTo_S1536_S_d0 : S1536.ReducesTo [0] S_

variable [Facts]

def fn {F : FTy → Type} [FloatOps F] (main_arg0 : IVec S8x7x256x768 8) (main_arg1 : FVec F S8x7x256x96 .fp8e4m3) (main_arg2 : FVec F S8 .f32) (main_arg3 : FVec F S1536 .f32) (main_arg4 : FVec F S7x256x1536 .bf16) (main_arg5 : FVec F S1536 .f32) : IVec S_ 1 :=
  let main_v0 : FVec F S8 .f32 := Host.absf main_arg2
  let main_cst : FVec F S_ .f32 := constant S_ .f32 0x7F7FFFFF#32
  let main_v1 : FVec F S8 .f32 := broadcastInDim S8 ![] bcast_S_S8 main_cst
  let main_v2 : IVec S8 1 := cmpf .ole main_v0 main_v1
  let main_c : IVec S_ 1 := constantI S_ 1 1#1
  let main_v3 : IVec S_ 1 := (fun x v => Host.reduce IntOp.andi x v reducesTo_S8_S_d0 h_S_) main_v2 main_c
  let main_v4 : FVec F S1536 .f32 := Host.absf main_arg5
  let main_cst_0 : FVec F S_ .f32 := constant S_ .f32 0x7F7FFFFF#32
  let main_v5 : FVec F S1536 .f32 := broadcastInDim S1536 ![] bcast_S_S1536 main_cst_0
  let main_v6 : IVec S1536 1 := cmpf .ole main_v4 main_v5
  let main_c_1 : IVec S_ 1 := constantI S_ 1 1#1
  let main_v7 : IVec S_ 1 := (fun x v => Host.reduce IntOp.andi x v reducesTo_S1536_S_d0 h_S_) main_v6 main_c_1
  let main_v8 : IVec S_ 1 := andi main_v3 main_v7
  main_v8
-- ==== Kernel.lean ====
abbrev S8x7x256x768 : Shape := ⟨4, ![8, 7, 256, 768]⟩
abbrev S8x7x256x96 : Shape := ⟨4, ![8, 7, 256, 96]⟩
abbrev S8 : Shape := ⟨1, ![8]⟩
abbrev S1536 : Shape := ⟨1, ![1536]⟩
abbrev S7x256x1536 : Shape := ⟨3, ![7, 256, 1536]⟩
abbrev S8x1792x768 : Shape := ⟨3, ![8, 1792, 768]⟩
abbrev S8x1792x96 : Shape := ⟨3, ![8, 1792, 96]⟩
abbrev S1x1536 : Shape := ⟨2, ![1, 1536]⟩
abbrev S1792x1536 : Shape := ⟨2, ![1792, 1536]⟩
abbrev S7x1x256 : Shape := ⟨3, ![7, 1, 256]⟩
abbrev S8x256x768 : Shape := ⟨3, ![8, 256, 768]⟩
abbrev S8x256x96 : Shape := ⟨3, ![8, 256, 96]⟩
abbrev S256x1536 : Shape := ⟨2, ![256, 1536]⟩
abbrev S1x1x256 : Shape := ⟨3, ![1, 1, 256]⟩
abbrev S96x256 : Shape := ⟨2, ![96, 256]⟩
abbrev S8x32x128 : Shape := ⟨3, ![8, 32, 128]⟩
abbrev S32x1536 : Shape := ⟨2, ![32, 1536]⟩
abbrev S32x256 : Shape := ⟨2, ![32, 256]⟩
abbrev S1 : Shape := ⟨1, ![1]⟩
abbrev S32x128 : Shape := ⟨2, ![32, 128]⟩
abbrev S16x128 : Shape := ⟨2, ![16, 128]⟩
abbrev S1x256 : Shape := ⟨2, ![1, 256]⟩
abbrev S1x32x96 : Shape := ⟨3, ![1, 32, 96]⟩
abbrev S32x96 : Shape := ⟨2, ![32, 96]⟩
abbrev S1x32x256 : Shape := ⟨3, ![1, 32, 256]⟩
abbrev S64x256 : Shape := ⟨2, ![64, 256]⟩
abbrev S1x32x128 : Shape := ⟨3, ![1, 32, 128]⟩
abbrev S32x128x1 : Shape := ⟨3, ![32, 128, 1]⟩
abbrev S32x1x128 : Shape := ⟨3, ![32, 1, 128]⟩
abbrev S32x2x128 : Shape := ⟨3, ![32, 2, 128]⟩
abbrev S64x128 : Shape := ⟨2, ![64, 128]⟩
abbrev S256x256 : Shape := ⟨2, ![256, 256]⟩
abbrev S16x128x1 : Shape := ⟨3, ![16, 128, 1]⟩
abbrev S1x128 : Shape := ⟨2, ![1, 128]⟩
abbrev S32 : Shape := ⟨1, ![32]⟩
abbrev S32x1 : Shape := ⟨2, ![32, 1]⟩
abbrev S256 : Shape := ⟨1, ![256]⟩

abbrev nBuf : Space → Nat
  | .hbm => 14
  | .vmem => 17
  | .smem => 1
  | _ => 0

abbrev bufTy : (tb : Table) → Fin (tcTables nBuf tb) → BufTy
  | .hbm, ⟨0, _⟩ => ⟨S8x7x256x768, .i8⟩
  | .hbm, ⟨1, _⟩ => ⟨S8x7x256x96, .fp8e4m3⟩
  | .hbm, ⟨2, _⟩ => ⟨S8, .f32⟩
  | .hbm, ⟨3, _⟩ => ⟨S1536, .f32⟩
  | .hbm, ⟨4, _⟩ => ⟨S7x256x1536, .bf16⟩
  | .hbm, ⟨5, _⟩ => ⟨S1536, .f32⟩
  | .hbm, ⟨6, _⟩ => ⟨S8x1792x768, .i8⟩
  | .hbm, ⟨7, _⟩ => ⟨S8x1792x96, .fp8e4m3⟩
  | .hbm, ⟨8, _⟩ => ⟨S1x1536, .f32⟩
  | .hbm, ⟨9, _⟩ => ⟨S1792x1536, .bf16⟩
  | .hbm, ⟨10, _⟩ => ⟨S1x1536, .f32⟩
  | .hbm, ⟨11, _⟩ => ⟨S1792x1536, .bf16⟩
  | .hbm, ⟨12, _⟩ => ⟨S1792x1536, .fp8e4m3⟩
  | .hbm, ⟨13, _⟩ => ⟨S7x1x256, .f32⟩
  | .local _ .vmem, ⟨0, _⟩ => ⟨S8x256x768, .i8⟩
  | .local _ .vmem, ⟨1, _⟩ => ⟨S8x256x768, .i8⟩
  | .local _ .vmem, ⟨2, _⟩ => ⟨S8x256x96, .fp8e4m3⟩
  | .local _ .vmem, ⟨3, _⟩ => ⟨S8x256x96, .fp8e4m3⟩
  | .local _ .vmem, ⟨4, _⟩ => ⟨S1x1536, .f32⟩
  | .local _ .vmem, ⟨5, _⟩ => ⟨S256x1536, .bf16⟩
  | .local _ .vmem, ⟨6, _⟩ => ⟨S256x1536, .bf16⟩
  | .local _ .vmem, ⟨7, _⟩ => ⟨S1x1536, .f32⟩
  | .local _ .vmem, ⟨8, _⟩ => ⟨S256x1536, .bf16⟩
  | .local _ .vmem, ⟨9, _⟩ => ⟨S256x1536, .bf16⟩
  | .local _ .vmem, ⟨10, _⟩ => ⟨S256x1536, .fp8e4m3⟩
  | .local _ .vmem, ⟨11, _⟩ => ⟨S256x1536, .fp8e4m3⟩
  | .local _ .vmem, ⟨12, _⟩ => ⟨S1x1x256, .f32⟩
  | .local _ .vmem, ⟨13, _⟩ => ⟨S1x1x256, .f32⟩
  | .local _ .vmem, ⟨14, _⟩ => ⟨S96x256, .bf16⟩
  | .local _ .vmem, ⟨15, _⟩ => ⟨S8x32x128, .f32⟩
  | .local _ .vmem, ⟨16, _⟩ => ⟨S32x1536, .f32⟩
  | .local _ .smem, ⟨0, _⟩ => ⟨S8, .f32⟩
  | _, _ => ⟨S8x7x256x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![7], ![false]⟩

@[reducible] def k0_t1_loop : Scf.Loop 32 :=
  let c0_i32_4 : BitVec 32 := 0#32
  let c8_i32 : BitVec 32 := 8#32
  let v17 : BitVec 32 := Scalar.addi c0_i32_4 c8_i32
  let c1_i32_5 : BitVec 32 := 1#32
  ⟨c0_i32_4, v17, c1_i32_5⟩
def k0_off1 (k0_t1 : Fin k0_t1_loop.trips) : Fin 3 → Nat :=
  let c0_9 : Index := 0#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v23 : Index := Scalar.indexCast v22
  let c0_10 : Index := 0#32
  ![0, v23.toNat, 0]
def k0_off2 (k0_t1 : Fin k0_t1_loop.trips) : Fin 3 → Nat :=
  let c1 : Index := 1#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v30 : Index := Scalar.indexCast v22
  let c0_14 : Index := 0#32
  ![1, v30.toNat, 0]
def k0_off3 (k0_t1 : Fin k0_t1_loop.trips) : Fin 3 → Nat :=
  let c2 : Index := 2#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v37 : Index := Scalar.indexCast v22
  let c0_18 : Index := 0#32
  ![2, v37.toNat, 0]
def k0_off4 (k0_t1 : Fin k0_t1_loop.trips) : Fin 3 → Nat :=
  let c3 : Index := 3#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v44 : Index := Scalar.indexCast v22
  let c0_22 : Index := 0#32
  ![3, v44.toNat, 0]
def k0_off5 (k0_t1 : Fin k0_t1_loop.trips) : Fin 3 → Nat :=
  let c4 : Index := 4#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v51 : Index := Scalar.indexCast v22
  let c0_26 : Index := 0#32
  ![4, v51.toNat, 0]
def k0_off6 (k0_t1 : Fin k0_t1_loop.trips) : Fin 3 → Nat :=
  let c5 : Index := 5#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v58 : Index := Scalar.indexCast v22
  let c0_30 : Index := 0#32
  ![5, v58.toNat, 0]
def k0_off7 (k0_t1 : Fin k0_t1_loop.trips) : Fin 3 → Nat :=
  let c6 : Index := 6#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v65 : Index := Scalar.indexCast v22
  let c0_34 : Index := 0#32
  ![6, v65.toNat, 0]
def k0_off8 (k0_t1 : Fin k0_t1_loop.trips) : Fin 3 → Nat :=
  let c7 : Index := 7#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v72 : Index := Scalar.indexCast v22
  let c0_38 : Index := 0#32
  ![7, v72.toNat, 0]
def k0_off9 (k0_t1 : Fin k0_t1_loop.trips) : Fin 3 → Nat :=
  let c0_46 : Index := 0#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v83 : Index := Scalar.indexCast v22
  let c0_47 : Index := 0#32
  ![0, v83.toNat, 0]
def k0_off10 (k0_t1 : Fin k0_t1_loop.trips) : Fin 3 → Nat :=
  let c1_83 : Index := 1#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v213 : Index := Scalar.indexCast v22
  let c0_84 : Index := 0#32
  ![1, v213.toNat, 0]
def k0_off11 (k0_t1 : Fin k0_t1_loop.trips) : Fin 3 → Nat :=
  let c2_130 : Index := 2#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v343 : Index := Scalar.indexCast v22
  let c0_131 : Index := 0#32
  ![2, v343.toNat, 0]
def k0_off12 (k0_t1 : Fin k0_t1_loop.trips) : Fin 3 → Nat :=
  let c3_177 : Index := 3#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v473 : Index := Scalar.indexCast v22
  let c0_178 : Index := 0#32
  ![3, v473.toNat, 0]
def k0_off13 (k0_t1 : Fin k0_t1_loop.trips) : Fin 3 → Nat :=
  let c4_224 : Index := 4#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v603 : Index := Scalar.indexCast v22
  let c0_225 : Index := 0#32
  ![4, v603.toNat, 0]
def k0_off14 (k0_t1 : Fin k0_t1_loop.trips) : Fin 3 → Nat :=
  let c5_271 : Index := 5#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v733 : Index := Scalar.indexCast v22
  let c0_272 : Index := 0#32
  ![5, v733.toNat, 0]
def k0_off15 (k0_t1 : Fin k0_t1_loop.trips) : Fin 3 → Nat :=
  let c6_318 : Index := 6#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v863 : Index := Scalar.indexCast v22
  let c0_319 : Index := 0#32
  ![6, v863.toNat, 0]
def k0_off16 (k0_t1 : Fin k0_t1_loop.trips) : Fin 3 → Nat :=
  let c7_365 : Index := 7#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v993 : Index := Scalar.indexCast v22
  let c0_366 : Index := 0#32
  ![7, v993.toNat, 0]
def k0_off17 (k0_t1 : Fin k0_t1_loop.trips) (c0_i32_421 : BitVec 32) : Fin 2 → Nat :=
  let c0_i32_4 : BitVec 32 := 0#32
  let c1_i32_5 : BitVec 32 := 1#32
  let arg13 : BitVec 32 := Scf.iv c0_i32_4 c1_i32_5 k0_t1
  let c32_i32_420 : BitVec 32 := 32#32
  let v1160 : BitVec 32 := Scalar.muli arg13 c32_i32_420
  let v1161 : BitVec 32 := Scalar.addi v1160 c0_i32_421
  let v1166 : Index := Scalar.indexCast v1161
  let c0_424 : Index := 0#32
  ![v1166.toNat, 0]
def k0_off18 (k0_t1 : Fin k0_t1_loop.trips) (c0_i32_431 : BitVec 32) : Fin 2 → Nat :=
  let c0_i32_4 : BitVec 32 := 0#32
  let c1_i32_5 : BitVec 32 := 1#32
  let arg13 : BitVec 32 := Scf.iv c0_i32_4 c1_i32_5 k0_t1
  let c32_i32_430 : BitVec 32 := 32#32
  let v1186 : BitVec 32 := Scalar.muli arg13 c32_i32_430
  let v1187 : BitVec 32 := Scalar.addi v1186 c0_i32_431
  let v1192 : Index := Scalar.indexCast v1187
  let c128_433 : Index := 128#32
  ![v1192.toNat, 128]
def k0_off19 (k0_t1 : Fin k0_t1_loop.trips) (c0_i32_445 : BitVec 32) : Fin 2 → Nat :=
  let c0_i32_4 : BitVec 32 := 0#32
  let c1_i32_5 : BitVec 32 := 1#32
  let arg13 : BitVec 32 := Scf.iv c0_i32_4 c1_i32_5 k0_t1
  let c32_i32_444 : BitVec 32 := 32#32
  let v1233 : BitVec 32 := Scalar.muli arg13 c32_i32_444
  let v1234 : BitVec 32 := Scalar.addi v1233 c0_i32_445
  let v1239 : Index := Scalar.indexCast v1234
  let c256_447 : Index := 256#32
  ![v1239.toNat, 256]
def k0_off20 (k0_t1 : Fin k0_t1_loop.trips) (c0_i32_454 : BitVec 32) : Fin 2 → Nat :=
  let c0_i32_4 : BitVec 32 := 0#32
  let c1_i32_5 : BitVec 32 := 1#32
  let arg13 : BitVec 32 := Scf.iv c0_i32_4 c1_i32_5 k0_t1
  let c32_i32_453 : BitVec 32 := 32#32
  let v1259 : BitVec 32 := Scalar.muli arg13 c32_i32_453
  let v1260 : BitVec 32 := Scalar.addi v1259 c0_i32_454
  let v1265 : Index := Scalar.indexCast v1260
  let c384_456 : Index := 384#32
  ![v1265.toNat, 384]
def k0_off21 (k0_t1 : Fin k0_t1_loop.trips) : Fin 3 → Nat :=
  let c0_514 : Index := 0#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v1447 : Index := Scalar.indexCast v22
  let c256_515 : Index := 256#32
  ![0, v1447.toNat, 256]
def k0_off22 (k0_t1 : Fin k0_t1_loop.trips) : Fin 3 → Nat :=
  let c1_560 : Index := 1#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v1577 : Index := Scalar.indexCast v22
  let c256_561 : Index := 256#32
  ![1, v1577.toNat, 256]
def k0_off23 (k0_t1 : Fin k0_t1_loop.trips) : Fin 3 → Nat :=
  let c2_607 : Index := 2#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v1707 : Index := Scalar.indexCast v22
  let c256_608 : Index := 256#32
  ![2, v1707.toNat, 256]
def k0_off24 (k0_t1 : Fin k0_t1_loop.trips) : Fin 3 → Nat :=
  let c3_654 : Index := 3#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v1837 : Index := Scalar.indexCast v22
  let c256_655 : Index := 256#32
  ![3, v1837.toNat, 256]
def k0_off25 (k0_t1 : Fin k0_t1_loop.trips) : Fin 3 → Nat :=
  let c4_701 : Index := 4#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v1967 : Index := Scalar.indexCast v22
  let c256_702 : Index := 256#32
  ![4, v1967.toNat, 256]
def k0_off26 (k0_t1 : Fin k0_t1_loop.trips) : Fin 3 → Nat :=
  let c5_748 : Index := 5#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v2097 : Index := Scalar.indexCast v22
  let c256_749 : Index := 256#32
  ![5, v2097.toNat, 256]
def k0_off27 (k0_t1 : Fin k0_t1_loop.trips) : Fin 3 → Nat :=
  let c6_795 : Index := 6#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v2227 : Index := Scalar.indexCast v22
  let c256_796 : Index := 256#32
  ![6, v2227.toNat, 256]
def k0_off28 (k0_t1 : Fin k0_t1_loop.trips) : Fin 3 → Nat :=
  let c7_842 : Index := 7#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v2357 : Index := Scalar.indexCast v22
  let c256_843 : Index := 256#32
  ![7, v2357.toNat, 256]
def k0_off29 (k0_t1 : Fin k0_t1_loop.trips) (c0_i32_898 : BitVec 32) : Fin 2 → Nat :=
  let c0_i32_4 : BitVec 32 := 0#32
  let c1_i32_5 : BitVec 32 := 1#32
  let arg13 : BitVec 32 := Scf.iv c0_i32_4 c1_i32_5 k0_t1
  let c32_i32_897 : BitVec 32 := 32#32
  let v2524 : BitVec 32 := Scalar.muli arg13 c32_i32_897
  let v2525 : BitVec 32 := Scalar.addi v2524 c0_i32_898
  let v2530 : Index := Scalar.indexCast v2525
  let c512_900 : Index := 512#32
  ![v2530.toNat, 512]
def k0_off30 (k0_t1 : Fin k0_t1_loop.trips) (c0_i32_907 : BitVec 32) : Fin 2 → Nat :=
  let c0_i32_4 : BitVec 32 := 0#32
  let c1_i32_5 : BitVec 32 := 1#32
  let arg13 : BitVec 32 := Scf.iv c0_i32_4 c1_i32_5 k0_t1
  let c32_i32_906 : BitVec 32 := 32#32
  let v2550 : BitVec 32 := Scalar.muli arg13 c32_i32_906
  let v2551 : BitVec 32 := Scalar.addi v2550 c0_i32_907
  let v2556 : Index := Scalar.indexCast v2551
  let c640_909 : Index := 640#32
  ![v2556.toNat, 640]
def k0_off31 (k0_t1 : Fin k0_t1_loop.trips) (c0_i32_921 : BitVec 32) : Fin 2 → Nat :=
  let c0_i32_4 : BitVec 32 := 0#32
  let c1_i32_5 : BitVec 32 := 1#32
  let arg13 : BitVec 32 := Scf.iv c0_i32_4 c1_i32_5 k0_t1
  let c32_i32_920 : BitVec 32 := 32#32
  let v2597 : BitVec 32 := Scalar.muli arg13 c32_i32_920
  let v2598 : BitVec 32 := Scalar.addi v2597 c0_i32_921
  let v2603 : Index := Scalar.indexCast v2598
  let c768_923 : Index := 768#32
  ![v2603.toNat, 768]
def k0_off32 (k0_t1 : Fin k0_t1_loop.trips) (c0_i32_930 : BitVec 32) : Fin 2 → Nat :=
  let c0_i32_4 : BitVec 32 := 0#32
  let c1_i32_5 : BitVec 32 := 1#32
  let arg13 : BitVec 32 := Scf.iv c0_i32_4 c1_i32_5 k0_t1
  let c32_i32_929 : BitVec 32 := 32#32
  let v2623 : BitVec 32 := Scalar.muli arg13 c32_i32_929
  let v2624 : BitVec 32 := Scalar.addi v2623 c0_i32_930
  let v2629 : Index := Scalar.indexCast v2624
  let c896_932 : Index := 896#32
  ![v2629.toNat, 896]
def k0_off33 (k0_t1 : Fin k0_t1_loop.trips) : Fin 3 → Nat :=
  let c0_991 : Index := 0#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v2811 : Index := Scalar.indexCast v22
  let c512_992 : Index := 512#32
  ![0, v2811.toNat, 512]
def k0_off34 (k0_t1 : Fin k0_t1_loop.trips) : Fin 3 → Nat :=
  let c1_1037 : Index := 1#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v2941 : Index := Scalar.indexCast v22
  let c512_1038 : Index := 512#32
  ![1, v2941.toNat, 512]
def k0_off35 (k0_t1 : Fin k0_t1_loop.trips) : Fin 3 → Nat :=
  let c2_1084 : Index := 2#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v3071 : Index := Scalar.indexCast v22
  let c512_1085 : Index := 512#32
  ![2, v3071.toNat, 512]
def k0_off36 (k0_t1 : Fin k0_t1_loop.trips) : Fin 3 → Nat :=
  let c3_1131 : Index := 3#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v3201 : Index := Scalar.indexCast v22
  let c512_1132 : Index := 512#32
  ![3, v3201.toNat, 512]
def k0_off37 (k0_t1 : Fin k0_t1_loop.trips) : Fin 3 → Nat :=
  let c4_1178 : Index := 4#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v3331 : Index := Scalar.indexCast v22
  let c512_1179 : Index := 512#32
  ![4, v3331.toNat, 512]
def k0_off38 (k0_t1 : Fin k0_t1_loop.trips) : Fin 3 → Nat :=
  let c5_1225 : Index := 5#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v3461 : Index := Scalar.indexCast v22
  let c512_1226 : Index := 512#32
  ![5, v3461.toNat, 512]
def k0_off39 (k0_t1 : Fin k0_t1_loop.trips) : Fin 3 → Nat :=
  let c6_1272 : Index := 6#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v3591 : Index := Scalar.indexCast v22
  let c512_1273 : Index := 512#32
  ![6, v3591.toNat, 512]
def k0_off40 (k0_t1 : Fin k0_t1_loop.trips) : Fin 3 → Nat :=
  let c7_1319 : Index := 7#32
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v3721 : Index := Scalar.indexCast v22
  let c512_1320 : Index := 512#32
  ![7, v3721.toNat, 512]
def k0_off41 (k0_t1 : Fin k0_t1_loop.trips) (c0_i32_1375 : BitVec 32) : Fin 2 → Nat :=
  let c0_i32_4 : BitVec 32 := 0#32
  let c1_i32_5 : BitVec 32 := 1#32
  let arg13 : BitVec 32 := Scf.iv c0_i32_4 c1_i32_5 k0_t1
  let c32_i32_1374 : BitVec 32 := 32#32
  let v3888 : BitVec 32 := Scalar.muli arg13 c32_i32_1374
  let v3889 : BitVec 32 := Scalar.addi v3888 c0_i32_1375
  let v3894 : Index := Scalar.indexCast v3889
  let c1024_1377 : Index := 1024#32
  ![v3894.toNat, 1024]
def k0_off42 (k0_t1 : Fin k0_t1_loop.trips) (c0_i32_1384 : BitVec 32) : Fin 2 → Nat :=
  let c0_i32_4 : BitVec 32 := 0#32
  let c1_i32_5 : BitVec 32 := 1#32
  let arg13 : BitVec 32 := Scf.iv c0_i32_4 c1_i32_5 k0_t1
  let c32_i32_1383 : BitVec 32 := 32#32
  let v3914 : BitVec 32 := Scalar.muli arg13 c32_i32_1383
  let v3915 : BitVec 32 := Scalar.addi v3914 c0_i32_1384
  let v3920 : Index := Scalar.indexCast v3915
  let c1152_1386 : Index := 1152#32
  ![v3920.toNat, 1152]
def k0_off43 (k0_t1 : Fin k0_t1_loop.trips) (c0_i32_1398 : BitVec 32) : Fin 2 → Nat :=
  let c0_i32_4 : BitVec 32 := 0#32
  let c1_i32_5 : BitVec 32 := 1#32
  let arg13 : BitVec 32 := Scf.iv c0_i32_4 c1_i32_5 k0_t1
  let c32_i32_1397 : BitVec 32 := 32#32
  let v3961 : BitVec 32 := Scalar.muli arg13 c32_i32_1397
  let v3962 : BitVec 32 := Scalar.addi v3961 c0_i32_1398
  let v3967 : Index := Scalar.indexCast v3962
  let c1280_1400 : Index := 1280#32
  ![v3967.toNat, 1280]
def k0_off44 (k0_t1 : Fin k0_t1_loop.trips) (c0_i32_1407 : BitVec 32) : Fin 2 → Nat :=
  let c0_i32_4 : BitVec 32 := 0#32
  let c1_i32_5 : BitVec 32 := 1#32
  let arg13 : BitVec 32 := Scf.iv c0_i32_4 c1_i32_5 k0_t1
  let c32_i32_1406 : BitVec 32 := 32#32
  let v3987 : BitVec 32 := Scalar.muli arg13 c32_i32_1406
  let v3988 : BitVec 32 := Scalar.addi v3987 c0_i32_1407
  let v3993 : Index := Scalar.indexCast v3988
  let c1408_1409 : Index := 1408#32
  ![v3993.toNat, 1408]
def k0_off45 (k0_t1 : Fin k0_t1_loop.trips) : Fin 2 → Nat :=
  let c0_i32_4 : BitVec 32 := 0#32
  let c1_i32_5 : BitVec 32 := 1#32
  let arg13 : BitVec 32 := Scf.iv c0_i32_4 c1_i32_5 k0_t1
  let c32_i32 : BitVec 32 := 32#32
  let v22 : BitVec 32 := Scalar.muli arg13 c32_i32
  let v4229 : Index := Scalar.indexCast v22
  let c0_1486 : Index := 0#32
  ![v4229.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_d" => some ((1 / 1536 : ℝ) : EReal)
  | _ => none
-- ==== ReferenceIdeal.lean ====
abbrev S8x7x256x768 : Shape := ⟨4, ![8, 7, 256, 768]⟩
abbrev S8x7x256x96 : Shape := ⟨4, ![8, 7, 256, 96]⟩
abbrev S8 : Shape := ⟨1, ![8]⟩
abbrev S1536 : Shape := ⟨1, ![1536]⟩
abbrev S7x256x1536 : Shape := ⟨3, ![7, 256, 1536]⟩
abbrev S1792x1536 : Shape := ⟨2, ![1792, 1536]⟩
abbrev S7x1x256 : Shape := ⟨3, ![7, 1, 256]⟩
abbrev S8x7x256x96x1 : Shape := ⟨5, ![8, 7, 256, 96, 1]⟩
abbrev S8x1x1x1x1 : Shape := ⟨5, ![8, 1, 1, 1, 1]⟩
abbrev S8x7x256x96x8 : Shape := ⟨5, ![8, 7, 256, 96, 8]⟩
abbrev S7x256x96x8 : Shape := ⟨4, ![7, 256, 96, 8]⟩
abbrev S7x256x96x8x1 : Shape := ⟨5, ![7, 256, 96, 8, 1]⟩
abbrev S7x256x96x8x2 : Shape := ⟨5, ![7, 256, 96, 8, 2]⟩
abbrev S1x1x1536 : Shape := ⟨3, ![1, 1, 1536]⟩
abbrev S7x256 : Shape := ⟨2, ![7, 256]⟩
abbrev S7x256x1 : Shape := ⟨3, ![7, 256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x7x256x768, .i8⟩
  | .hbm, ⟨1, _⟩ => ⟨S8x7x256x96, .fp8e4m3⟩
  | .hbm, ⟨2, _⟩ => ⟨S8, .f32⟩
  | .hbm, ⟨3, _⟩ => ⟨S1536, .f32⟩
  | .hbm, ⟨4, _⟩ => ⟨S7x256x1536, .bf16⟩
  | .hbm, ⟨5, _⟩ => ⟨S1536, .f32⟩
  | .hbm, ⟨6, _⟩ => ⟨S1792x1536, .bf16⟩
  | .hbm, ⟨7, _⟩ => ⟨S1792x1536, .fp8e4m3⟩
  | .hbm, ⟨8, _⟩ => ⟨S7x1x256, .f32⟩
  | .local _ .vmem, ⟨0, _⟩ => ⟨S8x7x256x768, .i8⟩
  | .local _ .vmem, ⟨1, _⟩ => ⟨S8x7x256x96, .fp8e4m3⟩
  | .local _ .vmem, ⟨2, _⟩ => ⟨S8, .f32⟩
  | .local _ .vmem, ⟨3, _⟩ => ⟨S1536, .f32⟩
  | .local _ .vmem, ⟨4, _⟩ => ⟨S7x256x1536, .bf16⟩
  | .local _ .vmem, ⟨5, _⟩ => ⟨S1536, .f32⟩
  | .local _ .vmem, ⟨6, _⟩ => ⟨S1792x1536, .bf16⟩
  | .local _ .vmem, ⟨7, _⟩ => ⟨S1792x1536, .fp8e4m3⟩
  | .local _ .vmem, ⟨8, _⟩ => ⟨S7x1x256, .f32⟩
  | _, _ => ⟨S8x7x256x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S8x7x256x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x7x256x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelFrame.lean ====
/-
  Hand-written, untrusted. The frame of `Kernel`: seven grid points, six staged inputs, three staged outputs and three
  scratch buffers. The body is run once for a point whose `program_id` is zero (the constant matrix and the zero fill of the
  scale scratch are stored) and once for any other, its counted loop by the generated invariant. The outputs are FORGOTTEN:
  nothing here reads what the kernel leaves in them.
-/
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three scratch buffers, whole: the constant matrix, the widened scales, the products with the gain. -/
abbrev scM0 : Memref sig .tc .vmem S96x256 .bf16 := Memref.whole cc0_scratch0
abbrev scM1 : Memref sig .tc .vmem S8x32x128 .f32 := Memref.whole cc0_scratch1
abbrev scM2 : Memref sig .tc .vmem S32x1536 .f32 := Memref.whole cc0_scratch2

/-- The invariant between the points, conjunct by conjunct: the scratches at some contents, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d))
          ∗ (∃ r, prngReg c r)) := by
  unfold Pipeline.ΦA; rw [scopedRest0_eq]; simp only [scM0, scM1, scM2, owns_whole]; try rfl

/-- The condition of the body's one conditional: the grid coordinate is zero. -/
abbrev first (i : grid0.Coords) : Prop :=
  Scalar.cmpi .ne (Scalar.extui (Scalar.cmpi .eq (BitVec.ofNat 32 (i 0).val) 0#32) : BitVec 32) 0#32 = 1#1

/-- The body's triple, for any continuation: from the inputs' staging memrefs at `x0 … x5`, the outputs' and the scratches at
    anything, the kernel runs to its return and hands back the inputs unchanged and the others at some contents. -/
theorem sound_kernel (c : Dev nD) (E : Set ℕ) (i : grid0.Coords) (arg1 : Memref sig .tc .smem S8 .f32) (harg1 : arg1.IsWhole) (arg2 : Memref sig .tc .vmem S8x256x768 .i8) (harg2 : arg2.IsWhole) (arg3 : Memref sig .tc .vmem S8x256x96 .fp8e4m3) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S256x1536 .fp8e4m3) (harg8 : arg8.IsWhole) (arg9 : Memref sig .tc .vmem S1x1x256 .f32) (harg9 : arg9.IsWhole)
    (x0 : Vec F S8 .f32) (x1 : Vec F S8x256x768 .i8) (x2 : Vec F S8x256x96 .fp8e4m3) (x3 : Vec F S1x1536 .f32) (x4 : Vec F S256x1536 .bf16) (x5 : Vec F S1x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) scM0 fullShare d) ∗ (∃ d, owns (c : Thread nD τ) scM1 fullShare d) ∗ (∃ d, owns (c : Thread nD τ) scM2 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) scM0 fullShare d) ∗ (∃ d, owns (c : Thread nD τ) scM1 fullShare d) ∗ (∃ d, owns (c : Thread nD τ) scM2 fullShare d)) -∗ K ⟨⟩))
      ⊢ wp frame (wpE (defs₀ (F := F)) Variants.none c none) E (cc0_nvfp4_sum_rmsnorm i arg1 harg1 arg2 harg2 arg3 harg3 arg4 harg4 arg5 harg5 arg6 harg6 arg7 harg7 arg8 harg8 arg9 harg9 scM0 (Memref.isWhole_whole _) scM1 (Memref.isWhole_whole _) scM2 (Memref.isWhole_whole _)) K := by
  simp only [cc0_nvfp4_sum_rmsnorm_eq_skeleton]; unfold cc0_nvfp4_sum_rmsnorm_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  by_cases hi : first i
  all_goals
    simp only [first] at hi
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-! ## The proof data and the body obligation -/

/-- The three outputs, FORGOTTEN. -/
def forgets0 : Fin 9 → Bool := fun
  | 0 => false | 1 => false | 2 => false | 3 => false | 4 => false | 5 => false | 6 => true | 7 => true | 8 => true
  | ⟨_ + 9, h⟩ => absurd h (Nat.not_lt.2 (Nat.le_add_left _ _))

/-- The proof data on core `c`: the arrays as the region finds them; each input's block left in place, what the body leaves in an
    output unnamed; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`: the inputs' blocks, the forgotten outputs at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

/-- The body at any point: the inputs' memrefs hold their blocks, the invariant is opened for the scratches, `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6, H7, H8⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitr [Hg]; swap; · iexact Hg
    isplitl [HS0]; · iexact HS0
    isplitl [HS1]; · iexact HS1
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- Every weakly fair execution of @main terminates, every final state has the inputs' arrays and every buffer that is no window's
    array as the region found them, and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 0 rfl).trans ((A_eq m c 0).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.KernelIdealFrame.lean ====
/-
  Hand-written, untrusted. The frame of `KernelIdeal`: seven grid points, six staged inputs, three staged outputs and three
  scratch buffers. The body is run once for a point whose `program_id` is zero (the constant matrix and the zero fill of the
  scale scratch are stored) and once for any other, its counted loop by the generated invariant. The outputs are FORGOTTEN:
  nothing here reads what the kernel leaves in them.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three scratch buffers, whole: the constant matrix, the widened scales, the products with the gain. -/
abbrev scM0 : Memref sig .tc .vmem S96x256 .bf16 := Memref.whole cc0_scratch0
abbrev scM1 : Memref sig .tc .vmem S8x32x128 .f32 := Memref.whole cc0_scratch1
abbrev scM2 : Memref sig .tc .vmem S32x1536 .f32 := Memref.whole cc0_scratch2

/-- The invariant between the points, conjunct by conjunct: the scratches at some contents, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d))
          ∗ (∃ r, prngReg c r)) := by
  unfold Pipeline.ΦA; rw [scopedRest0_eq]; simp only [scM0, scM1, scM2, owns_whole]; try rfl

/-- The condition of the body's one conditional: the grid coordinate is zero. -/
abbrev first (i : grid0.Coords) : Prop :=
  Scalar.cmpi .ne (Scalar.extui (Scalar.cmpi .eq (BitVec.ofNat 32 (i 0).val) 0#32) : BitVec 32) 0#32 = 1#1

/-- The body's triple, for any continuation: from the inputs' staging memrefs at `x0 … x5`, the outputs' and the scratches at
    anything, the kernel runs to its return and hands back the inputs unchanged and the others at some contents. -/
theorem sound_kernel (c : Dev nD) (E : Set ℕ) (i : grid0.Coords) (arg1 : Memref sig .tc .smem S8 .f32) (harg1 : arg1.IsWhole) (arg2 : Memref sig .tc .vmem S8x256x768 .i8) (harg2 : arg2.IsWhole) (arg3 : Memref sig .tc .vmem S8x256x96 .fp8e4m3) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S256x1536 .fp8e4m3) (harg8 : arg8.IsWhole) (arg9 : Memref sig .tc .vmem S1x1x256 .f32) (harg9 : arg9.IsWhole)
    (x0 : Vec F S8 .f32) (x1 : Vec F S8x256x768 .i8) (x2 : Vec F S8x256x96 .fp8e4m3) (x3 : Vec F S1x1536 .f32) (x4 : Vec F S256x1536 .bf16) (x5 : Vec F S1x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) scM0 fullShare d) ∗ (∃ d, owns (c : Thread nD τ) scM1 fullShare d) ∗ (∃ d, owns (c : Thread nD τ) scM2 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) scM0 fullShare d) ∗ (∃ d, owns (c : Thread nD τ) scM1 fullShare d) ∗ (∃ d, owns (c : Thread nD τ) scM2 fullShare d)) -∗ K ⟨⟩))
      ⊢ wp frame (wpE (defs₀ (F := F)) Variants.none c none) E (cc0_nvfp4_sum_rmsnorm i arg1 harg1 arg2 harg2 arg3 harg3 arg4 harg4 arg5 harg5 arg6 harg6 arg7 harg7 arg8 harg8 arg9 harg9 scM0 (Memref.isWhole_whole _) scM1 (Memref.isWhole_whole _) scM2 (Memref.isWhole_whole _)) K := by
  simp only [cc0_nvfp4_sum_rmsnorm_eq_skeleton]; unfold cc0_nvfp4_sum_rmsnorm_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  by_cases hi : first i
  all_goals
    simp only [first] at hi
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-! ## The proof data and the body obligation -/

/-- The three outputs, FORGOTTEN. -/
def forgets0 : Fin 9 → Bool := fun
  | 0 => false | 1 => false | 2 => false | 3 => false | 4 => false | 5 => false | 6 => true | 7 => true | 8 => true
  | ⟨_ + 9, h⟩ => absurd h (Nat.not_lt.2 (Nat.le_add_left _ _))

/-- The proof data on core `c`: the arrays as the region finds them; each input's block left in place, what the body leaves in an
    output unnamed; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`: the inputs' blocks, the forgotten outputs at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

/-- The body at any point: the inputs' memrefs hold their blocks, the invariant is opened for the scratches, `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6, H7, H8⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitr [Hg]; swap; · iexact Hg
    isplitl [HS0]; · iexact HS0
    isplitl [HS1]; · iexact HS1
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- Every weakly fair execution of @main terminates, every final state has the inputs' arrays and every buffer that is no window's
    array as the region found them, and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 0 rfl).trans ((A_eq m c 0).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.Pre.lean ====
/-
  Hand-written, untrusted. What the precondition says: no shard scale and no gain is greater in magnitude than the greatest f32.
-/
module

public import proofs.«01_k».proof.Defs
public import Idealize.ShloMosaic.Lib.ReduceAll
public import Idealize.ShloMosaic.Lib.Pointwise

@[expose] public section

set_option maxRecDepth 16384

noncomputable section

namespace Cert.Pre_finite.Hand

open Cert.Pre_finite
open Idealize.ShloMosaic

instance facts : Facts := ⟨by decide +kernel, by decide +kernel, by decide +kernel, by decide +kernel, by decide +kernel⟩

theorem le_of_cmpf (x y : EReal) (h : FloatOps.cmpf (F := Ideal) (φ := .f32) CmpFPredicate.ole x y = 1#1) : x ≤ y := by
  have h' : BitVec.ofBool (decide (x ≤ y)) = 1#1 := h
  by_contra hn
  rw [decide_eq_false hn] at h'
  exact absurd h' (by decide)

theorem ss_le (a0 : IVec S8x7x256x768 8) (a1 : FVec Ideal S8x7x256x96 .fp8e4m3) (a2 : FVec Ideal S8 .f32) (a3 : FVec Ideal S1536 .f32)
    (a4 : FVec Ideal S7x256x1536 .bf16) (a5 : FVec Ideal S1536 .f32) (h : fn a0 a1 a2 a3 a4 a5 = fun _ => 1#1) :
    (∀ p : Fin 8, max (a2 (ix1 p)) (-(a2 (ix1 p))) ≤ Ideal.ofBits .f32 0x7F7FFFFF#32)
      ∧ ∀ d : Fin 1536, max (a5 (ix1 d)) (-(a5 (ix1 d))) ≤ Ideal.ofBits .f32 0x7F7FFFFF#32 := by
  obtain ⟨h1, h2⟩ := IntOp.andi_eq_one.1 (congrFun h (fun a => a.elim0))
  haveI : Subsingleton S_.Idx := ⟨fun a b => funext fun x => x.elim0⟩
  exact ⟨fun p => le_of_cmpf _ _ (Host.reduce_andi_all _ _ _ _ _ h1 (ix1 p)), fun d => le_of_cmpf _ _ (Host.reduce_andi_all _ _ _ _ _ h2 (ix1 d))⟩

end Cert.Pre_finite.Hand

end
-- ==== Proof.Trip.lean ====
/-
  Hand-written, untrusted. What one trip of the kernel's loop over blocks of 32 token rows computes, in a handful of vector
  functions: the decoded 4-bit codes of a partial, the scales spread over the channels, the stack of the eight partials' products,
  the sum over the partials (one matrix product against the constant matrix of shard scales), the interleaved channels, the bf16
  residual, the sum of its squares and the largest magnitude after the gain. The generated values of the trip ARE these, by
  unfolding.
-/
module

public import proofs.«01_k».proof.Proof.Gen.KernelIdeal.Loops

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

/-- The bf16 word of each 4-bit code in the low nibble of `w`: magnitude codes 0 and 1 are 0 and 0.5, the others the
    code shifted under an exponent; the sign bit moved up. -/
def nibBits (w : IVec S32x256 32) : IVec S32x256 32 :=
  ori
    (select (cmpi .slt (andi w (broadcast S32x256 7#32)) (broadcast S32x256 2#32))
      (muli (andi w (broadcast S32x256 7#32)) (broadcast S32x256 16128#32))
      (addi (broadcast S32x256 16256#32) (shli (subi (andi w (broadcast S32x256 7#32)) (broadcast S32x256 2#32)) (broadcast S32x256 6#32))))
    (shli (andi w (broadcast S32x256 8#32)) (broadcast S32x256 12#32))

/-- The two codes of every byte, as bf16: row `2 t` the low nibbles of row `t`, row `2 t + 1` its high nibbles. -/
def codesOf (b : IVec S32x256 8) : FVec F S64x256 .bf16 :=
  bitcastToFloat .bf16 (bitcast S64x256 16
    (ori (nibBits (andi (extui 32 b natLt_8_32) (broadcast S32x256 15#32)))
      (shli (nibBits (shrui (extui 32 b natLt_8_32) (broadcast S32x256 4#32))) (broadcast S32x256 16#32)))
    bitcasts_S32x256_w32_S64x256_w16)

/-- The lane of the scale that serves lane `l`: `first + l / 8`. -/
def scaleIdx (first : BitVec 32) : IVec S32x128 32 :=
  have v3 : IVec S32x128 32 := iota .tc S32x128 32 [1] iota_S32x128_d1_w32
  have q : IVec S32x128 32 := select
    (andi (cmpi .ne (subi (extui 32 (cmpi .sgt v3 (broadcast S32x128 0#32)) natLt_1_32) (extui 32 (cmpi .slt v3 (broadcast S32x128 0#32)) natLt_1_32)) (broadcast S32x128 1#32))
      (cmpi .ne (remsi v3 (broadcast S32x128 8#32)) (broadcast S32x128 0#32)))
    (subi (divsi v3 (broadcast S32x128 8#32)) (broadcast S32x128 1#32)) (divsi v3 (broadcast S32x128 8#32))
  have a : IVec S32x128 32 := addi (broadcast S32x128 first) q
  shapeCast S32x128 (shapeCast S32x128x1
    (select (cmpi .slt a (broadcast S32x128 0#32)) (addi a (broadcast S32x128 128#32)) a) shapeCasts_S32x128_S32x128x1) shapeCasts_S32x128x1_S32x128

/-- The scales of 128 consecutive bytes, once per nibble row. -/
def scalesOf (s : FVec F S32x128 .f32) (first : BitVec 32) : FVec F S64x128 .bf16 :=
  truncf .bf16 (shapeCast S64x128 (broadcastTo S32x2x128 (shapeCast S32x1x128 (dynamicGather 1 s (scaleIdx first)) shapeCasts_S32x128_S32x1x128)
    broadcasts_S32x1x128_S32x2x128) shapeCasts_S32x2x128_S64x128) bitsLt_bf16_f32

/-- One partial's codes times their scales, for the bytes of one column of 256; `c` numbers the column. -/
def prodOf (c : Fin 3) (b : IVec S32x256 8) (s : FVec F S32x128 .f32) : FVec F S64x256 .bf16 :=
  mulf (codesOf b) (concatenate S64x256 1
    [⟨S64x128, scalesOf s (![0#32, 32#32, 64#32] c)⟩, ⟨S64x128, scalesOf s (![16#32, 48#32, 80#32] c)⟩] concatenates_S64x128_S64x128_S64x256_d1)

theorem slices_half (h : Fin 2) : S64x256.Slices ![32 * h.val, 0] S32x256 :=
  match h with
  | 0 => slices_S64x256_o0_0_S32x256
  | 1 => slices_S64x256_o32_0_S32x256

/-- The sum over the eight partials of 16 token rows, each product weighted by its shard's scale: the matrix product of the constant
    matrix's three parts with the stack, and the three parts of the result added. -/
def sumOf (lhs : FVec F S96x256 .bf16) (h : Fin 2) (ps : Fin 8 → FVec F S64x256 .bf16) : FVec F S32x256 .f32 :=
  have q : Fin 8 → FVec F S32x256 .bf16 := fun p => extractStridedSlice S32x256 ![32 * h.val, 0] (ps p) (slices_half h)
  have o : FVec F S96x256 .f32 := matmul dot_S96x256_S256x256_S96x256_1_0_0_1_n_n none lhs
    (concatenate S256x256 0 [⟨S32x256, q 0⟩, ⟨S32x256, q 1⟩, ⟨S32x256, q 2⟩, ⟨S32x256, q 3⟩, ⟨S32x256, q 4⟩, ⟨S32x256, q 5⟩, ⟨S32x256, q 6⟩, ⟨S32x256, q 7⟩]
      concatenates_S32x256_S32x256_S32x256_S32x256_S32x256_S32x256_S32x256_S32x256_S256x256_d0)
    (constant S96x256 .f32 0x00000000#32)
  addf (addf (extractStridedSlice S32x256 ![64, 0] o slices_S96x256_o64_0_S32x256)
      (extractStridedSlice S32x256 ![32, 0] o slices_S96x256_o32_0_S32x256))
    (extractStridedSlice S32x256 ![0, 0] o slices_S96x256_o0_0_S32x256)

/-- An index of lanes, wrapped if negative. -/
def wrapIdx (i : IVec S16x128 32) : IVec S16x128 32 :=
  shapeCast S16x128 (shapeCast S16x128x1
    (select (cmpi .slt i (broadcast S16x128 0#32)) (addi i (broadcast S16x128 128#32)) i) shapeCasts_S16x128_S16x128x1) shapeCasts_S16x128x1_S16x128

theorem slices_even (j : Fin 2) : S32x256.Slices ![0, 128 * j.val] S16x128 :=
  match j with
  | 0 => slices_S32x256_o0_0_S16x128
  | 1 => slices_S32x256_o0_128_S16x128

theorem slices_odd (j : Fin 2) : S32x256.Slices ![16, 128 * j.val] S16x128 :=
  match j with
  | 0 => slices_S32x256_o16_0_S16x128
  | 1 => slices_S32x256_o16_128_S16x128

/-- 128 consecutive channels of 16 token rows: the even and the odd channels of 128 bytes interleaved, the first or the second 128. -/
def zOf (s : FVec F S32x256 .f32) (j k : Fin 2) : FVec F S16x128 .f32 :=
  have ev : FVec F S16x128 .f32 := extractStridedSlice S16x128 ![0, 128 * j.val] s (slices_even j)
  have od : FVec F S16x128 .f32 := dynamicRotate 1 64#32 none (extractStridedSlice S16x128 ![16, 128 * j.val] s (slices_odd j)) rotates_S16x128_d1
  match k with
  | 0 => dynamicGather 1 (select k0_pay3 ev od) (wrapIdx k0_pay4)
  | 1 => dynamicGather 1 (select k0_pay3 od ev) (wrapIdx k0_pay5)

/-- What a trip reads: the packed bytes by column and partial, the scales by partial, the constant matrix, the bias and the gain by
    128 channels, the residual input by 128 channels and half. -/
structure In (F : FTy → Type) where
  bytes : Fin 3 → Fin 8 → IVec S32x256 8
  scw : Fin 8 → FVec F S32x128 .f32
  lhs : FVec F S96x256 .bf16
  bias : Fin 12 → FVec F S1x128 .f32
  gain : Fin 12 → FVec F S1x128 .f32
  x : Fin 12 → Fin 2 → FVec F S16x128 .bf16

/-- The column, the half of the column and the half of its channels of channel block `n`. -/
def colOf (n : Fin 12) : Fin 3 := ![0, 0, 0, 0, 1, 1, 1, 1, 2, 2, 2, 2] n
def jOf (n : Fin 12) : Fin 2 := ![0, 0, 1, 1, 0, 0, 1, 1, 0, 0, 1, 1] n
def kOf (n : Fin 12) : Fin 2 := ![0, 1, 0, 1, 0, 1, 0, 1, 0, 1, 0, 1] n

namespace In

variable (I : In F)

/-- The new residual, rounded to bf16: the sum, plus the bias, plus the residual input. -/
def nr (n : Fin 12) (h : Fin 2) : FVec F S16x128 .bf16 :=
  truncf .bf16 (addf (addf (zOf (sumOf I.lhs h (fun p => prodOf (colOf n) (I.bytes (colOf n) p) (I.scw p))) (jOf n) (kOf n))
    (broadcastTo S16x128 (I.bias n) broadcasts_S1x128_S16x128)) (extf .f32 (I.x n h) bitsLt_bf16_f32)) bitsLt_bf16_f32

/-- The same, widened. -/
def r (n : Fin 12) (h : Fin 2) : FVec F S16x128 .f32 := extf .f32 (I.nr n h) bitsLt_bf16_f32

/-- Times the gain. -/
def rg (n : Fin 12) (h : Fin 2) : FVec F S16x128 .f32 :=
  mulf (I.r n h) (broadcastTo S16x128 (I.gain n) broadcasts_S1x128_S16x128)

/-- The squares added over some channel blocks, lane by lane. -/
def ssq (h : Fin 2) (l : List (Fin 12)) : FVec F S16x128 .f32 :=
  l.foldl (fun a n => addf a (mulf (I.r n h) (I.r n h))) (broadcast S16x128 (Scalar.ofBits .f32 0x00000000#32))

/-- The largest magnitude after the gain over some channel blocks, lane by lane. -/
def amax (h : Fin 2) (l : List (Fin 12)) : FVec F S16x128 .f32 :=
  l.foldl (fun a n => maximumf a (absf (I.rg n h))) (broadcast S16x128 (Scalar.ofBits .f32 0x00000000#32))

end In

/-- All twelve channel blocks. -/
def blocks : List (Fin 12) := [0, 1, 2, 3, 4, 5, 6, 7, 8, 9, 10, 11]
/-- All but the last. -/
def blocks' : List (Fin 12) := [0, 1, 2, 3, 4, 5, 6, 7, 8, 9, 10]

/-! ## The rectangles a trip reads and writes -/

/-- The first token row of trip `k`. -/
def row (k : Fin k0_t1_loop.trips) : BitVec 32 := Scalar.muli (Scf.iv 0#32 1#32 k) 32#32

def offB (k : Fin k0_t1_loop.trips) (c : Fin 3) (p : Fin 8) : Fin 3 → ℕ := ![p.val, (Scalar.indexCast (row k)).toNat, 256 * c.val]
theorem offB_inb : ∀ k c p a, offB k c p a + S1x32x256.size a ≤ S8x256x768.size a := by decide +kernel
def offS (p : Fin 8) : Fin 3 → ℕ := ![p.val, 0, 0]
theorem offS_inb : ∀ p a, offS p a + S1x32x128.size a ≤ S8x32x128.size a := by decide +kernel
def offV (n : Fin 12) : Fin 2 → ℕ := ![0, 128 * n.val]
theorem offV_inb : ∀ n a, offV n a + S1x128.size a ≤ S1x1536.size a := by decide +kernel
def offX (k : Fin k0_t1_loop.trips) (n : Fin 12) (h : Fin 2) : Fin 2 → ℕ :=
  ![(Scalar.indexCast (Scalar.addi (row k) (BitVec.ofNat 32 (16 * h.val)))).toNat, 128 * n.val]
theorem offX_inb : ∀ k n h a, offX k n h a + S16x128.size a ≤ S256x1536.size a := by decide +kernel
/-- The block of 16 token rows by 128 channels. -/
abbrev rectX (k : Fin k0_t1_loop.trips) (n : Fin 12) (h : Fin 2) : Rect S256x1536 :=
  Rect.unit (s := S256x1536) (offX k n h) S16x128.size (offX_inb k n h)
def offG (n : Fin 12) (h : Fin 2) : Fin 2 → ℕ := ![16 * h.val, 128 * n.val]
theorem offG_inb : ∀ n h a, offG n h a + S16x128.size a ≤ S32x1536.size a := by decide +kernel

section
variable (arg2 : Memref sig .tc .vmem S8x256x768 .i8) (arg3 : Memref sig .tc .vmem S8x256x96 .fp8e4m3)
  (arg4 : Memref sig .tc .vmem S1x1536 .f32) (arg5 : Memref sig .tc .vmem S256x1536 .bf16) (arg6 : Memref sig .tc .vmem S1x1536 .f32)
  (arg10 : Memref sig .tc .vmem S96x256 .bf16) (arg11 : Memref sig .tc .vmem S8x32x128 .f32) (arg12 : Memref sig .tc .vmem S32x1536 .f32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X10 : BufTy.Contents (Elt F) arg10.view.ty)
  (f11 : BufTy.Contents (Elt F) arg11.view.ty) (k : Fin k0_t1_loop.trips)

/-- What trip `k` reads, of its buffers' contents. -/
def inOf : In F where
  bytes c p := shapeCast S32x256 (View.readAt (Elt F) arg2.view (Rect.unit (s := S8x256x768) (offB k c p) S1x32x256.size (offB_inb k c p)).toLoadRect X2) shapeCasts_S1x32x256_S32x256
  scw p := shapeCast S32x128 (View.readAt (Elt F) arg11.view (Rect.unit (s := S8x32x128) (offS p) S1x32x128.size (offS_inb p)).toLoadRect
    (arg11.view.writes (Elt F) f11 (trip_k0_t1.sl.HW_arg11_8 arg3 X3 k))) shapeCasts_S1x32x128_S32x128
  lhs := View.readAt (Elt F) arg10.view (Rect.unit (s := S96x256) ![0, 0] S96x256.size inb_S96x256_S96x256_0_0).toLoadRect X10
  bias n := shapeCast S1x128 (View.readAt (Elt F) arg4.view (Rect.unit (s := S1x1536) (offV n) S1x128.size (offV_inb n)).toLoadRect X4) shapeCasts_S1x128_S1x128
  gain n := shapeCast S1x128 (View.readAt (Elt F) arg6.view (Rect.unit (s := S1x1536) (offV n) S1x128.size (offV_inb n)).toLoadRect X6) shapeCasts_S1x128_S1x128
  x n h := shapeCast S16x128 (View.readAt (Elt F) arg5.view (Rect.unit (s := S256x1536) (offX k n h) S16x128.size (offX_inb k n h)).toLoadRect X5) shapeCasts_S16x128_S16x128

end

/-! ## What a trip leaves, in these terms -/

/-- The order in which a trip stores the blocks of 128 channels by 16 rows, the last first. -/
def order : List (Fin 12 × Fin 2) :=
  [(11, 1), (10, 1), (9, 1), (8, 1), (11, 0), (10, 0), (9, 0), (8, 0), (7, 1), (6, 1), (5, 1), (4, 1), (7, 0), (6, 0), (5, 0), (4, 0),
    (3, 1), (2, 1), (1, 1), (0, 1), (3, 0), (2, 0), (1, 0), (0, 0)]

namespace In

variable (I : In F)

/-- The blocks of the new residual, as trip `k` stores them. -/
def nrPieces (k : Fin k0_t1_loop.trips) : List (View.Piece (Elt F) S256x1536 .bf16) :=
  order.map fun q => ⟨rectX k q.1 q.2, I.nr q.1 q.2⟩

/-- The blocks of the products with the gain. -/
def rgPieces : List (View.Piece (Elt F) S32x1536 .f32) :=
  order.map fun q => ⟨Rect.unit (s := S32x1536) (offG q.1 q.2) S16x128.size (offG_inb q.1 q.2), shapeCast S16x128 (I.rg q.1 q.2) shapeCasts_S16x128_S16x128⟩

/-- The reciprocal of the root mean square of each of the 32 rows. -/
def inv : FVec F S32x1 .f32 := k0_pay494 (I.ssq 0 blocks) (I.ssq 1 blocks)

/-- The exponent of each row's scale. -/
def ex : IVec S32x1 32 := k0_pay495 (I.ssq 0 blocks) (I.amax 0 blocks) (I.amax 1 blocks') (I.ssq 1 blocks) (absf (I.rg 11 1))

/-- The scale of each row. -/
def scale : FVec F S32x1 .f32 :=
  bitcastToFloat .f32 (shli (addi (broadcast S32x1 127#32) I.ex) (broadcast S32x1 23#32))

/-- The codes of 32 rows from the products with the gain. -/
def codes (rg : Vec F S32x1536 .f32) : FVec F S32x1536 .fp8e4m3 :=
  k0_pay498 I.inv (subi (broadcast S32x1 127#32) I.ex) 23#32 rg

/-- The row of scales with the 32 rows' scales added at their lanes. -/
def acc (k : Fin k0_t1_loop.trips) (a : FVec F S1x256 .f32) : FVec F S1x256 .f32 :=
  k0_pay7 a I.scale (iota .tc S32x256 32 [1] iota_S32x256_d1_w32) (iota .tc S32x256 32 [0] iota_S32x256_d0_w32) (row k)

end In

section
variable (𝒱 : Variants) (c : Dev nD) (bd : Option 𝒱.V) (i : grid0.Coords) (arg1 : Memref sig .tc .smem S8 .f32) (harg1 : arg1.IsWhole) (arg2 : Memref sig .tc .vmem S8x256x768 .i8) (harg2 : arg2.IsWhole) (arg3 : Memref sig .tc .vmem S8x256x96 .fp8e4m3) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S256x1536 .fp8e4m3) (harg8 : arg8.IsWhole) (arg9 : Memref sig .tc .vmem S1x1x256 .f32) (harg9 : arg9.IsWhole) (arg10 : Memref sig .tc .vmem S96x256 .bf16) (harg10 : arg10.IsWhole) (arg11 : Memref sig .tc .vmem S8x32x128 .f32) (harg11 : arg11.IsWhole) (arg12 : Memref sig .tc .vmem S32x1536 .f32) (harg12 : arg12.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X10 : BufTy.Contents (Elt F) arg10.view.ty)
  (k : Fin k0_t1_loop.trips)
  (a : FVec F S1x256 .f32) (f7 : BufTy.Contents (Elt F) arg7.view.ty) (f8 : BufTy.Contents (Elt F) arg8.view.ty)
  (f11 : BufTy.Contents (Elt F) arg11.view.ty) (f12 : BufTy.Contents (Elt F) arg12.view.ty)

/-- The generated trip, at the lane numbers the kernel passes it. -/
abbrev tripAt := trip_k0_t1 (F := F) 𝒱 c bd i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) X2 X3 X4 X5 X6 X10 k

set_option maxHeartbeats 8000000 in
theorem trip_acc : (tripAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 k).1 a f7 f8 f11 f12 = (inOf arg2 arg3 arg4 arg5 arg6 arg10 arg11 X2 X3 X4 X5 X6 X10 f11 k).acc k a := by
  unfold tripAt trip_k0_t1; rfl

set_option maxHeartbeats 8000000 in
theorem trip_nr : (tripAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 k).2.1 a f7 f8 f11 f12 = (inOf arg2 arg3 arg4 arg5 arg6 arg10 arg11 X2 X3 X4 X5 X6 X10 f11 k).nrPieces k := by
  unfold tripAt trip_k0_t1; rfl

set_option maxHeartbeats 8000000 in
theorem trip_rg : (tripAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 k).2.2.2.2.1 a f7 f8 f11 f12 = (inOf arg2 arg3 arg4 arg5 arg6 arg10 arg11 X2 X3 X4 X5 X6 X10 f11 k).rgPieces := by
  unfold tripAt trip_k0_t1; rfl

set_option maxHeartbeats 8000000 in
theorem trip_scw : (tripAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 k).2.2.2.1 a f7 f8 f11 f12 = trip_k0_t1.sl.HW_arg11_8 arg3 X3 k := by
  unfold tripAt trip_k0_t1; rfl

set_option maxHeartbeats 8000000 in
theorem trip_codes : (tripAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 k).2.2.1 a f7 f8 f11 f12
    = [⟨Rect.unit (s := S256x1536) (k0_off45 k) S32x1536.size (k0_off45_inb k),
        (inOf arg2 arg3 arg4 arg5 arg6 arg10 arg11 X2 X3 X4 X5 X6 X10 f11 k).codes (arg12.view.readCov (inOf arg2 arg3 arg4 arg5 arg6 arg10 arg11 X2 X3 X4 X5 X6 X10 f11 k).rgPieces (Rect.unit (s := S32x1536) ![0, 0] S32x1536.size inb_S32x1536_S32x1536_0_0).toLoadRect)⟩] := by
  unfold tripAt trip_k0_t1; rfl

end

end Cert.KernelIdeal.Val

end
-- ==== Proof.Codes.lean ====
/-
  Hand-written, untrusted. One partial's codes times scales, read at an index, at the ideal instance.
-/
module

public import proofs.«01_k».proof.Proof.Trip
public import Idealize.ShloMosaic.Lib.Pointwise
public import Idealize.ShloMosaic.Lib.BitcastPair
public import Mathlib.Tactic.NormNum
public import Mathlib.Tactic.FinCases

@[expose] public section

set_option maxRecDepth 16384

noncomputable section

namespace Cert.KernelIdeal.Val

open Cert.KernelIdeal Cert.KernelIdeal.Gen
open Idealize.ShloMosaic Idealize.ShloMosaic.TcCoe Idealize.SL.Sem

/-- The number a 4-bit code denotes, by its four bits: 0, 0.5, 1, 1.5, 2, 3, 4 or 6, and the sign. -/
def nib (n : BitVec 32) : EReal :=
  have mag : EReal := Scalar.select (IntOp.cmpi .ne (IntOp.andi n 4#32) 0#32)
    (Scalar.select (IntOp.cmpi .ne (IntOp.andi n 2#32) 0#32)
      (Scalar.select (IntOp.cmpi .ne (IntOp.andi n 1#32) 0#32) (Ideal.ofBits .f32 0x40C00000#32) (Ideal.ofBits .f32 0x40800000#32))
      (Scalar.select (IntOp.cmpi .ne (IntOp.andi n 1#32) 0#32) (Ideal.ofBits .f32 0x40400000#32) (Ideal.ofBits .f32 0x40000000#32)))
    (Scalar.select (IntOp.cmpi .ne (IntOp.andi n 2#32) 0#32)
      (Scalar.select (IntOp.cmpi .ne (IntOp.andi n 1#32) 0#32) (Ideal.ofBits .f32 0x3FC00000#32) (Ideal.ofBits .f32 0x3F800000#32))
      (Scalar.select (IntOp.cmpi .ne (IntOp.andi n 1#32) 0#32) (Ideal.ofBits .f32 0x3F000000#32) (Ideal.ofBits .f32 0x00000000#32)))
  Scalar.select (IntOp.cmpi .ne (IntOp.andi n 8#32) 0#32) (Ideal.ofBits .f32 0x00000000#32 - mag) mag

/-- The two nibbles of a byte, as words. -/
def nibOf (b : BitVec 8) (q : Fin 2) : BitVec 32 :=
  match q with
  | 0 => IntOp.andi (b.setWidth 32) 15#32
  | 1 => IntOp.shrsi .vector (b.setWidth 32) 4#32

/-- The number each nibble of a byte denotes. -/
def code (b : BitVec 8) (q : Fin 2) : EReal := nib (nibOf b q)

/-- The kernel's bf16 word of a nibble. -/
def bfBits (w : BitVec 32) : BitVec 32 :=
  IntOp.ori
    (Scalar.select (IntOp.cmpi .slt (IntOp.andi w 7#32) 2#32) (IntOp.muli (IntOp.andi w 7#32) 16128#32)
      (IntOp.addi 16256#32 (IntOp.shli .vector (IntOp.subi (IntOp.andi w 7#32) 2#32) 6#32)))
    (IntOp.shli .vector (IntOp.andi w 8#32) 12#32)

/-- The kernel's word of the two nibbles of a byte. -/
def word (b : BitVec 8) : BitVec 32 :=
  IntOp.ori (bfBits (IntOp.andi (b.setWidth 32) 15#32))
    (IntOp.shli .vector (bfBits (IntOp.shrui .vector (b.setWidth 32) 4#32)) 16#32)

set_option maxHeartbeats 4000000 in
/-- The bf16 pattern the kernel makes of a nibble denotes the number the nibble denotes. -/
theorem nib_bf (n : Fin 16) : Ideal.ofBits .bf16 ((bfBits (BitVec.ofNat 32 n.val)).extractLsb' 0 16) = nib (BitVec.ofNat 32 n.val) := by
  fin_cases n <;>
    simp [nib, bfBits, Scalar.select, IntOp.cmpi, IntOp.andi, IntOp.ori, IntOp.muli, IntOp.addi, IntOp.subi, IntOp.shli, Ideal.ofBits, Ideal.ieee, -EReal.coe_mul] <;> norm_num

theorem nibOf_fin (b : BitVec 8) (q : Fin 2) : ∃ n : Fin 16, nibOf b q = BitVec.ofNat 32 n.val := by
  refine ⟨⟨(nibOf b q).toNat, ?_⟩, by simp⟩
  revert b q; decide +kernel

theorem word_half (b : BitVec 8) (q : Fin 2) : (word b).extractLsb' (16 * q.val) 16 = (bfBits (nibOf b q)).extractLsb' 0 16 := by
  revert b q; decide +kernel

/-- Row `2 t + q` of the decoded codes is nibble `q` of byte row `t`. -/
theorem codesOf_apply (b : IVec S32x256 8) (t : Fin 32) (q : Fin 2) (l : Fin 256) :
    codesOf (F := Ideal) b (ix2 ⟨2 * t.val + q.val, by omega⟩ l) = code (b (ix2 t l)) q := by
  unfold codesOf
  show Ideal.ofBits .bf16 _ = _
  rw [bitcast_32_16]
  have hrow : S64x256.row (ix2 ⟨2 * t.val + q.val, by omega⟩ l) = 2 * t.val + q.val := rfl
  have hsrc : ∀ (hp : ∀ (a : Fin S32x256.rank), a.val + 2 = S32x256.rank → S64x256.row (ix2 ⟨2 * t.val + q.val, by omega⟩ l) / 2 < S32x256.size a), bitcasts_S32x256_w32_S64x256_w16.srcIdx (ix2 ⟨2 * t.val + q.val, by omega⟩ l)
      (S64x256.row (ix2 ⟨2 * t.val + q.val, by omega⟩ l) / 2) hp = (ix2 t l : S32x256.Idx) := fun hp => by
    funext a; apply Fin.ext
    match a with
    | ⟨0, _⟩ => exact (show (2 * t.val + q.val) / 2 = t.val by omega)
    | ⟨1, _⟩ => rfl
  rw [hsrc]
  have hmod : S64x256.row (ix2 ⟨2 * t.val + q.val, by omega⟩ l) % 2 = q.val := by rw [hrow]; omega
  rw [hmod]
  have hw := word_half (b (ix2 t l)) q
  obtain ⟨n, hn⟩ := nibOf_fin (b (ix2 t l)) q
  have hb := nib_bf n
  unfold code
  rw [hn] at hw ⊢
  rw [← hb, ← hw]
  rfl

/-- The scale's lane for lane `l`, at the first scale `f` of a half column: `f + l / 8`. -/
theorem scaleIdx_apply (f : Fin 6) (r : Fin 32) (l : Fin 128) :
    (scaleIdx (BitVec.ofNat 32 (16 * f.val)) (ix2 r l)).toNat % 128 = 16 * f.val + l.val / 8 := by
  unfold scaleIdx
  pointwise
  clear r
  revert f l; decide +kernel

theorem scalesOf_apply (s : FVec Ideal S32x128 .f32) (f : Fin 6) (t : Fin 32) (q : Fin 2) (l : Fin 128) :
    scalesOf (F := Ideal) s (BitVec.ofNat 32 (16 * f.val)) (ix2 ⟨2 * t.val + q.val, by omega⟩ l) = s (ix2 t ⟨16 * f.val + l.val / 8, by omega⟩) := by
  unfold scalesOf
  pointwise
  exact congrArg (fun k => s (ix2 t k)) (Fin.ext (scaleIdx_apply f t l))

/-- One partial's products: at nibble `q` of byte `(t, l)` of column `c`, the code times the scale of its block of 8 bytes. -/
theorem prodOf_apply (c : Fin 3) (b : IVec S32x256 8) (s : FVec Ideal S32x128 .f32) (t : Fin 32) (q : Fin 2) (l : Fin 256) :
    prodOf (F := Ideal) c b s (ix2 ⟨2 * t.val + q.val, by omega⟩ l)
      = code (b (ix2 t l)) q * s (ix2 t ⟨32 * c.val + l.val / 8, by omega⟩) := by
  unfold prodOf
  have h0 : (![0#32, 32#32, 64#32] : Fin 3 → BitVec 32) c = BitVec.ofNat 32 (16 * (⟨2 * c.val, by omega⟩ : Fin 6).val) := by revert c; decide
  have h1 : (![16#32, 48#32, 80#32] : Fin 3 → BitVec 32) c = BitVec.ofNat 32 (16 * (⟨2 * c.val + 1, by omega⟩ : Fin 6).val) := by revert c; decide
  rw [h0, h1]
  pointwise
  rw [codesOf_apply]
  refine congrArg (code (b (ix2 t l)) q * ·) ?_
  by_cases hl : l.val < 128
  · rw [dif_pos hl]
    refine (scalesOf_apply s ⟨2 * c.val, by omega⟩ t q ⟨l.val, hl⟩).trans ?_
    exact congrArg (fun k => s (ix2 t k)) (Fin.ext (by show 16 * (2 * c.val) + l.val / 8 = 32 * c.val + l.val / 8; omega))
  · rw [dif_neg hl]
    refine (scalesOf_apply s ⟨2 * c.val + 1, by omega⟩ t q ⟨l.val - 128, by omega⟩).trans ?_
    exact congrArg (fun k => s (ix2 t k)) (Fin.ext (by show 16 * (2 * c.val + 1) + (l.val - 128) / 8 = 32 * c.val + l.val / 8; omega))

end Cert.KernelIdeal.Val

end
-- ==== Proof.Block.lean ====
/-
  Hand-written, untrusted. The residual of one block of 16 token rows by 128 channels, entry by entry.
-/
module

public import proofs.«01_k».proof.Proof.Codes

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

/-- The constant matrix of shard scales: in the first 32 rows, row `m` picks nibble row `2 (m % 16) + m / 16` of each partial and
    weighs it by the partial's shard scale; the other rows are zero. -/
def lhsAt (ss : Fin 8 → EReal) (m : Fin 96) (k : Fin 256) : EReal :=
  if m.val < 32 ∧ k.val % 32 = 2 * (m.val % 16) + m.val % 32 / 16 then ss ⟨k.val / 32, by omega⟩ else 0

/-- The stack of eight 32-row arrays, at row `m` of the `p`-th. -/
theorem stack_apply (q : Fin 8 → FVec Ideal S32x256 .bf16) (p : Fin 8) (m : Fin 32) (l : Fin 256) :
    concatenate S256x256 0 [⟨S32x256, q 0⟩, ⟨S32x256, q 1⟩, ⟨S32x256, q 2⟩, ⟨S32x256, q 3⟩, ⟨S32x256, q 4⟩, ⟨S32x256, q 5⟩, ⟨S32x256, q 6⟩, ⟨S32x256, q 7⟩]
      concatenates_S32x256_S32x256_S32x256_S32x256_S32x256_S32x256_S32x256_S32x256_S256x256_d0 (ix2 ⟨32 * p.val + m.val, by omega⟩ l) = q p (ix2 m l) := by
  pointwise
  have hp := p.isLt
  have hm := m.isLt
  have key : ∀ (a b : Fin 8) (x y : Fin 32), a.val = b.val → x.val = y.val → q a (ix2 x l) = q b (ix2 y l) := by
    rintro a b x y h h'
    rw [Fin.ext h, Fin.ext h']
  split_ifs <;> refine key _ _ _ _ ?_ ?_
  all_goals first
    | (dsimp only; omega)
    | (change 0 = p.val; omega) | (change 1 = p.val; omega) | (change 2 = p.val; omega) | (change 3 = p.val; omega)
    | (change 4 = p.val; omega) | (change 5 = p.val; omega) | (change 6 = p.val; omega) | (change 7 = p.val; omega)

theorem sumOf_apply (lhs : FVec Ideal S96x256 .bf16) (ss : Fin 8 → EReal) (hl : ∀ m k, lhs (ix2 m k) = lhsAt ss m k) (h : Fin 2)
    (ps : Fin 8 → FVec Ideal S64x256 .bf16) (m : Fin 32) (l : Fin 256) :
    sumOf lhs h ps (ix2 m l) = ∑ p : Fin 8, ss p * ps p (ix2 ⟨32 * h.val + 2 * (m.val % 16) + m.val / 16, by omega⟩ l) := by
  unfold sumOf
  generalize hq : (fun p => extractStridedSlice S32x256 ![32 * h.val, 0] (ps p) (slices_half h)) = q
  have hqa : ∀ p (m' : Fin 32), q p (ix2 m' l) = ps p (ix2 ⟨32 * h.val + m'.val, by omega⟩ l) := by
    intro p m'
    rw [← hq]
    match h with
    | 0 => pointwise
    | 1 => pointwise
  have hst := stack_apply q
  revert hst
  generalize concatenate S256x256 0 [⟨S32x256, q 0⟩, ⟨S32x256, q 1⟩, ⟨S32x256, q 2⟩, ⟨S32x256, q 3⟩, ⟨S32x256, q 4⟩, ⟨S32x256, q 5⟩, ⟨S32x256, q 6⟩, ⟨S32x256, q 7⟩]
      concatenates_S32x256_S32x256_S32x256_S32x256_S32x256_S32x256_S32x256_S32x256_S256x256_d0 = R
  intro hst
  have hR : ∀ M : Fin 96, ∑ k : Fin 256, lhs (ix2 M k) * R (ix2 k l) = if M.val < 32 then ∑ p : Fin 8, ss p * ps p (ix2 ⟨32 * h.val + (2 * (M.val % 16) + M.val % 32 / 16), by omega⟩ l) else 0 := by
    intro M
    rw [Fin.sum_univ_tiles 8 32 rfl]
    split
    · refine Finset.sum_congr rfl fun p _ => ?_
      rw [Finset.sum_eq_single (⟨2 * (M.val % 16) + M.val % 32 / 16, by omega⟩ : Fin 32)]
      · refine congrArg₂ (· * ·) ?_ ?_
        · refine (hl _ _).trans ?_
          unfold lhsAt
          rw [if_pos ⟨‹_›, by show (p.val * 32 + (2 * (M.val % 16) + M.val % 32 / 16)) % 32 = 2 * (M.val % 16) + M.val % 32 / 16; omega⟩]
          exact congrArg ss (Fin.ext (by show (p.val * 32 + (2 * (M.val % 16) + M.val % 32 / 16)) / 32 = p.val; omega))
        · refine (congrArg (fun k => R (ix2 k l)) (Fin.ext ?_)).trans ((hst p ⟨2 * (M.val % 16) + M.val % 32 / 16, by omega⟩ l).trans (hqa _ _))
          show p.val * 32 + (2 * (M.val % 16) + M.val % 32 / 16) = 32 * p.val + (2 * (M.val % 16) + M.val % 32 / 16)
          omega
      · intro b _ hb
        refine (congrArg (· * _) ((hl _ _).trans ?_)).trans (zero_mul _)
        unfold lhsAt
        rw [if_neg]
        rintro ⟨-, h2⟩
        refine hb (Fin.ext ?_)
        have h3 : (p.val * 32 + b.val) % 32 = 2 * (M.val % 16) + M.val % 32 / 16 := h2
        show b.val = 2 * (M.val % 16) + M.val % 32 / 16
        omega
      · simp
    · refine Finset.sum_eq_zero fun p _ => Finset.sum_eq_zero fun m' _ => ?_
      refine (congrArg (· * _) ((hl _ _).trans ?_)).trans (zero_mul _)
      unfold lhsAt
      rw [if_neg]
      exact fun h => ‹¬ _› h.1
  pointwise
  rw [hR, hR, hR, if_neg (by show ¬ 64 + m.val < 32; omega), if_neg (by show ¬ 32 + m.val < 32; omega), if_pos m.isLt, zero_add, zero_add]
  refine Finset.sum_congr rfl fun p _ => congrArg (fun k => ss p * ps p (ix2 k l)) (Fin.ext ?_)
  show 32 * h.val + (2 * (m.val % 16) + m.val % 32 / 16) = 32 * h.val + 2 * (m.val % 16) + m.val / 16
  have := m.isLt
  rw [Nat.mod_eq_of_lt this]; omega

theorem wrap4 (r : Fin 16) (l : Fin 128) : (wrapIdx k0_pay4 (ix2 r l)).toNat % 128 = l.val / 2 + 64 * (l.val % 2) := by
  unfold wrapIdx
  pointwise [k0_pay4]
  clear r; revert l; decide +kernel

theorem wrap5 (r : Fin 16) (l : Fin 128) : (wrapIdx k0_pay5 (ix2 r l)).toNat % 128 = l.val / 2 + 64 * (1 - l.val % 2) := by
  unfold wrapIdx
  pointwise [k0_pay5, k0_pay4]
  clear r; revert l; decide +kernel

theorem low_lanes (r : Fin 16) (l : Fin 128) : k0_pay3 (ix2 r l) = if l.val < 64 then 1#1 else 0#1 := by
  pointwise [k0_pay3]
  clear r; revert l; decide +kernel

theorem gather_apply (s : FVec Ideal S16x128 .f32) (idx : IVec S16x128 32) (r : Fin 16) (l l' : Fin 128)
    (h : (idx (ix2 r l)).toNat % 128 = l'.val) : dynamicGather 1 s idx (ix2 r l) = s (ix2 r l') := by
  pointwise
  exact congrArg (fun k => s (ix2 r k)) (Fin.ext h)

theorem rot_apply (s : FVec Ideal S16x128 .f32) (r : Fin 16) (l : Fin 128) :
    dynamicRotate 1 64#32 none s rotates_S16x128_d1 (ix2 r l) = s (ix2 r ⟨(l.val + 64) % 128, by omega⟩) := by
  pointwise
  exact congrArg (fun k => s (ix2 r k)) (Fin.ext (by show (l.val + 128 - 64) % 128 = (l.val + 64) % 128; omega))

theorem even_apply (s : FVec Ideal S32x256 .f32) (j : Fin 2) (r : Fin 16) (l : Fin 128) :
    extractStridedSlice S16x128 ![0, 128 * j.val] s (slices_even j) (ix2 r l) = s (ix2 ⟨r.val, by omega⟩ ⟨128 * j.val + l.val, by omega⟩) := by
  match j with
  | 0 => pointwise
  | 1 => pointwise

theorem odd_apply (s : FVec Ideal S32x256 .f32) (j : Fin 2) (r : Fin 16) (l : Fin 128) :
    extractStridedSlice S16x128 ![16, 128 * j.val] s (slices_odd j) (ix2 r l) = s (ix2 ⟨16 + r.val, by omega⟩ ⟨128 * j.val + l.val, by omega⟩) := by
  match j with
  | 0 => pointwise
  | 1 => pointwise

theorem pick (s : FVec Ideal S32x256 .f32) (p : Prop) [Decidable p] (a b : Fin 32) (x y : Fin 256) (a' : Fin 32) (x' : Fin 256)
    (h1 : p → a.val = a'.val ∧ x.val = x'.val) (h2 : ¬ p → b.val = a'.val ∧ y.val = x'.val) :
    Scalar.select (if p then 1#1 else 0#1) (s (ix2 a x)) (s (ix2 b y)) = s (ix2 a' x') := by
  by_cases h : p
  · rw [if_pos h, Fin.ext (h1 h).1, Fin.ext (h1 h).2]; rfl
  · rw [if_neg h, Fin.ext (h2 h).1, Fin.ext (h2 h).2]; rfl

theorem zOf_apply (s : FVec Ideal S32x256 .f32) (j k : Fin 2) (r : Fin 16) (l : Fin 128) :
    zOf s j k (ix2 r l) = s (ix2 ⟨16 * (l.val % 2) + r.val, by omega⟩ ⟨128 * j.val + 64 * k.val + l.val / 2, by omega⟩) := by
  unfold zOf
  match k with
  | 0 =>
    refine (gather_apply _ _ r l ⟨l.val / 2 + 64 * (l.val % 2), by omega⟩ (wrap4 r l)).trans ?_
    show Scalar.select (k0_pay3 (ix2 r ⟨_, _⟩)) (extractStridedSlice S16x128 _ s _ (ix2 r ⟨_, _⟩)) (dynamicRotate 1 64#32 none _ _ (ix2 r ⟨_, _⟩)) = _
    rw [low_lanes, rot_apply, odd_apply, even_apply]
    refine pick s _ _ _ _ _ _ _ (fun h => ?_) (fun h => ?_) <;> simp only [Fin.val_zero, mul_zero, add_zero] at h ⊢ <;> rcases Nat.mod_two_eq_zero_or_one l.val with e | e <;> rw [e] at h ⊢ <;> omega
  | 1 =>
    refine (gather_apply _ _ r l ⟨l.val / 2 + 64 * (1 - l.val % 2), by omega⟩ (wrap5 r l)).trans ?_
    show Scalar.select (k0_pay3 (ix2 r ⟨_, _⟩)) (dynamicRotate 1 64#32 none _ _ (ix2 r ⟨_, _⟩)) (extractStridedSlice S16x128 _ s _ (ix2 r ⟨_, _⟩)) = _
    rw [low_lanes, rot_apply, odd_apply, even_apply]
    refine pick s _ _ _ _ _ _ _ (fun h => ?_) (fun h => ?_) <;> simp only [Fin.val_one, mul_one] at h ⊢ <;> rcases Nat.mod_two_eq_zero_or_one l.val with e | e <;> rw [e] at h ⊢ <;> omega

/-- An entry of a block of the new residual: the sum over the partials of shard scale times code times block scale, plus the bias,
    plus the residual input. -/
theorem nr_apply (I : In Ideal) (ss : Fin 8 → EReal) (hl : ∀ m k, I.lhs (ix2 m k) = lhsAt ss m k) (n : Fin 12) (h : Fin 2) (r : Fin 16) (l : Fin 128) :
    I.nr n h (ix2 r l) = (∑ p : Fin 8, ss p * (code (I.bytes (colOf n) p (ix2 ⟨16 * h.val + r.val, by omega⟩
        ⟨128 * (jOf n).val + 64 * (kOf n).val + l.val / 2, by omega⟩)) ⟨l.val % 2, by omega⟩
        * I.scw p (ix2 ⟨16 * h.val + r.val, by omega⟩ ⟨(128 * n.val + l.val) / 16, by omega⟩)))
      + I.bias n (ix2 0 l) + I.x n h (ix2 r l) := by
  unfold In.nr
  pointwise
  rw [zOf_apply, sumOf_apply _ ss hl]
  refine congrArg (fun a => a + I.bias n (ix2 0 l) + I.x n h (ix2 r l)) (Finset.sum_congr rfl fun p _ => congrArg (ss p * ·) ?_)
  refine (congrArg (fun k => prodOf (F := Ideal) (colOf n) (I.bytes (colOf n) p) (I.scw p) (ix2 k ⟨128 * (jOf n).val + 64 * (kOf n).val + l.val / 2, by omega⟩)) (Fin.ext ?_)).trans
    ((prodOf_apply (colOf n) (I.bytes (colOf n) p) (I.scw p) ⟨16 * h.val + r.val, by omega⟩ ⟨l.val % 2, by omega⟩ ⟨128 * (jOf n).val + 64 * (kOf n).val + l.val / 2, by omega⟩).trans ?_)
  · show 32 * h.val + 2 * ((16 * (l.val % 2) + r.val) % 16) + (16 * (l.val % 2) + r.val) / 16 = 2 * (16 * h.val + r.val) + l.val % 2
    omega
  · refine congrArg (fun k => code _ _ * I.scw p (ix2 _ k)) (Fin.ext ?_)
    show 32 * (colOf n).val + (128 * (jOf n).val + 64 * (kOf n).val + l.val / 2) / 8 = (128 * n.val + l.val) / 16
    have : n.val = 4 * (colOf n).val + 2 * (jOf n).val + (kOf n).val := by revert n; decide
    omega

end Cert.KernelIdeal.Val

end
-- ==== Proof.Maths.lean ====
/-
  Hand-written, untrusted. The arithmetic of one token row over the extended reals: the reference's norm, largest magnitude, scale
  exponent and codes as functions of the row's residual, the kernel's, and their equality.
-/
module

public import Idealize.ShloMosaic.Lib.Pointwise
public import Mathlib.Analysis.SpecialFunctions.Pow.Real
public import Mathlib.Data.EReal.Operations

@[expose] public section

set_option maxRecDepth 16384

noncomputable section

namespace Cert.Row

open Idealize.ShloMosaic Idealize.ShloMosaic.TcCoe

/-! ## The reference's row -/

/-- The sum of squares of a row. -/
def sumsq (R : Fin 1536 → EReal) : EReal := ∑ d, R d * R d
/-- The reciprocal root mean square. -/
def inv (R : Fin 1536 → EReal) : EReal := Ideal.rsqrt (Ideal.div (sumsq R) (Ideal.ofBits .f32 1153433600#32) + Ideal.ofBits .f32 897988541#32)
/-- The normalised row, times the gain. -/
def y (R g : Fin 1536 → EReal) (d : Fin 1536) : EReal := R d * inv R * g d
/-- The largest magnitude of a row over 448. -/
def top (y : Fin 1536 → EReal) : EReal :=
  Finset.univ.fold max (Ideal.ofBits .f32 4286578688#32) (fun d => max (y d) (-(y d))) * Ideal.ofBits .f32 991054117#32
/-- The exponent of the scale. -/
def expo (v : EReal) : EReal :=
  if v < Ideal.ofBits .f32 8388608#32 then 0 else Ideal.liftRound Int.floor (Ideal.div (Ideal.log v) ((Real.log 2 : ℝ) : EReal)) + 1
/-- The scale. -/
def scale (v : EReal) : EReal := Ideal.exp2 (expo v)
/-- A code: the scaled entry, clipped to ±448. -/
def cd (y v : EReal) : EReal :=
  min (Ideal.ofBits .f32 1138753536#32) (max (Ideal.ofBits .f32 3286237184#32) (y * Ideal.exp2 (0 - expo v)))

/-! ## The kernel's row -/

def kinv (R : Fin 1536 → EReal) : EReal := Ideal.rsqrt (sumsq R * ((1 / 1536 : ℝ) : EReal) + Ideal.ofBits .f32 897988541#32)
def ktop (R g : Fin 1536 → EReal) : EReal :=
  Finset.univ.fold max 0 (fun d => max (R d * g d) (-(R d * g d))) * kinv R * Ideal.ofBits .f32 991054117#32
def kfield (v : EReal) : BitVec 32 :=
  Ideal.fptosi 32 (∑ x : Fin 256, Scalar.select (IntOp.andi (IntOp.cmpi .sgt (BitVec.ofNat 32 x.val) 0#32)
    (BitVec.ofBool (decide (Ideal.ofBits .f32 (IntOp.shli .vector (BitVec.ofNat 32 x.val) 23#32) ≤ v)))) (1 : EReal) 0)
def kex (v : EReal) : BitVec 32 :=
  Scalar.select (IntOp.cmpi .eq (kfield v) 0#32) 0#32 (IntOp.subi (kfield v) 126#32)
def kscale (v : EReal) : EReal := Ideal.ofBits .f32 (IntOp.shli .vector (IntOp.addi 127#32 (kex v)) 23#32)
def kcd (R g : Fin 1536 → EReal) (v : EReal) (d : Fin 1536) : EReal :=
  min (Ideal.ofBits .f32 1138753536#32) (max (Ideal.ofBits .f32 3286237184#32)
    (R d * g d * (kinv R * Ideal.ofBits .f32 (IntOp.shli .vector (IntOp.subi 127#32 (kex v)) 23#32))))

/-! ## Constants -/

theorem c1536 : Ideal.ofBits .f32 1153433600#32 = ((1536 : ℝ) : EReal) := by
  simp [Ideal.ofBits, Ideal.ieee, -EReal.coe_mul]; norm_num
theorem ceps : ∃ r : ℝ, 0 < r ∧ Ideal.ofBits .f32 897988541#32 = (r : EReal) :=
  ⟨8796093 * 2 ^ (-43 : ℤ), by positivity, by simp [Ideal.ofBits, Ideal.ieee, -EReal.coe_mul]⟩
theorem c448 : ∃ r : ℝ, 0 < r ∧ r < 1 / 256 ∧ Ideal.ofBits .f32 991054117#32 = (r : EReal) :=
  ⟨9586981 * 2 ^ (-32 : ℤ), by positivity, by norm_num, by simp [Ideal.ofBits, Ideal.ieee, -EReal.coe_mul]⟩
theorem cbot : Ideal.ofBits .f32 4286578688#32 = ⊥ := by simp [Ideal.ofBits, Ideal.ieee]
theorem cmin : Ideal.ofBits .f32 8388608#32 = (((2 : ℝ) ^ (-126 : ℤ) : ℝ) : EReal) := by
  simp [Ideal.ofBits, Ideal.ieee, -EReal.coe_mul]; norm_num
theorem cmax : Ideal.ofBits .f32 0x7F7FFFFF#32 = ((16777215 * (2 : ℝ) ^ (104 : ℤ) : ℝ) : EReal) := by
  simp [Ideal.ofBits, Ideal.ieee, -EReal.coe_mul]

/-! ## The norm -/

theorem kinv_eq (R : Fin 1536 → EReal) : kinv R = inv R := by
  unfold kinv inv
  rw [c1536, Ideal.div_coe (by norm_num)]

theorem mul_self_nonneg (x : EReal) : 0 ≤ x * x := by
  rcases le_total 0 x with h | h
  · exact mul_nonneg h h
  · rw [← neg_mul_neg]; exact mul_nonneg (EReal.neg_nonneg.2 h) (EReal.neg_nonneg.2 h)

theorem sumsq_nonneg (R : Fin 1536 → EReal) : 0 ≤ sumsq R := Finset.sum_nonneg fun d _ => mul_self_nonneg _

theorem le_sumsq (R : Fin 1536 → EReal) (d : Fin 1536) : R d * R d ≤ sumsq R :=
  Finset.single_le_sum (f := fun d => R d * R d) (fun d _ => mul_self_nonneg _) (Finset.mem_univ d)

/-- The reciprocal root mean square is a nonnegative real: zero when the sum of squares is infinite, else bounded by each entry. -/
theorem inv_real (R : Fin 1536 → EReal) : ∃ i : ℝ, 0 ≤ i ∧ inv R = (i : EReal) ∧
    (i = 0 ∨ ∀ d, ∃ r : ℝ, R d = (r : EReal) ∧ |r| * i ≤ 40) := by
  obtain ⟨e, he, hE⟩ := ceps
  rw [← kinv_eq]
  unfold kinv
  rw [hE]
  have h0 := sumsq_nonneg R
  have hle := le_sumsq R
  generalize sumsq R = s at *
  induction s with
  | bot => simp at h0
  | top =>
    refine ⟨0, le_rfl, ?_, Or.inl rfl⟩
    rw [EReal.top_mul_coe_of_pos (by norm_num), EReal.top_add_coe]; rfl
  | coe s =>
    have hs : 0 ≤ s := by exact_mod_cast h0
    have hp : 0 < s * (1 / 1536) + e := by positivity
    refine ⟨(Real.sqrt (s * (1 / 1536) + e))⁻¹, by positivity, ?_, Or.inr fun d => ?_⟩
    · rw [← EReal.coe_mul, ← EReal.coe_add]
      show (if _ then _ else if _ then _ else _) = _
      rw [if_neg (by linarith), if_neg (by linarith)]
    · have hd := hle d
      generalize R d = x at *
      induction x with
      | bot => simp at hd
      | top => simp at hd
      | coe r =>
        refine ⟨r, rfl, ?_⟩
        have hr : r * r ≤ s := by exact_mod_cast hd
        rw [← div_eq_mul_inv, div_le_iff₀ (Real.sqrt_pos.2 hp)]
        refine abs_le_of_sq_le_sq' ?_ (by positivity) |>.2
        rw [sq_abs, mul_pow, Real.sq_sqrt hp.le]
        nlinarith

/-! ## The largest magnitude -/

theorem abs_mul_coe (x : EReal) (i : ℝ) (hi : 0 ≤ i) : max (x * i) (-(x * i)) = max x (-x) * i := by
  rw [← EReal.neg_mul]
  have hm : Monotone fun a : EReal => a * (i : EReal) := fun a b h => mul_le_mul_of_nonneg_right h (by exact_mod_cast hi)
  exact (hm.map_max).symm

theorem abs_nonneg' (x : EReal) : 0 ≤ max x (-x) := by
  rcases le_total 0 x with h | h
  · exact le_max_of_le_left h
  · exact le_max_of_le_right (EReal.neg_nonneg.2 h)

theorem fold_zero (f : Fin 1536 → EReal) (h : ∀ d, 0 ≤ f d) : Finset.univ.fold max 0 f = Finset.univ.fold max ⊥ f := by
  refine le_antisymm (Finset.fold_max_le _ |>.2 ⟨?_, fun d hd => Finset.le_fold_max _ |>.2 (Or.inr ⟨d, hd, le_rfl⟩)⟩)
    (Finset.fold_max_le _ |>.2 ⟨bot_le, fun d hd => Finset.le_fold_max _ |>.2 (Or.inr ⟨d, hd, le_rfl⟩)⟩)
  exact Finset.le_fold_max _ |>.2 (Or.inr ⟨0, Finset.mem_univ _, h 0⟩)

theorem ktop_eq (R g : Fin 1536 → EReal) : ktop R g = top (y R g) := by
  unfold ktop top
  obtain ⟨i, hi, hI, -⟩ := inv_real R
  rw [kinv_eq, cbot]
  refine congrArg (· * _) ?_
  have hy : (fun d => max (y R g d) (-(y R g d))) = fun d => max (R d * g d) (-(R d * g d)) * (i : EReal) := by
    funext d
    rw [← abs_mul_coe _ i hi]
    unfold y
    rw [hI, mul_right_comm]
  rw [hy, ← fold_zero _ (fun d => mul_nonneg (abs_nonneg' _) (by exact_mod_cast hi)), hI]
  have hm : Monotone fun a : EReal => a * (i : EReal) := fun a b h => mul_le_mul_of_nonneg_right h (by exact_mod_cast hi)
  have := Finset.fold_hom (op := max) (op' := max) (b := (0 : EReal)) (f := fun d => max (R d * g d) (-(R d * g d))) (s := Finset.univ)
    (m := fun a : EReal => a * (i : EReal)) (fun a b => hm.map_max)
  rw [← this, zero_mul]

/-- With a finite gain the largest magnitude over 448 is a nonnegative real below 2^126. -/
theorem top_real (R g : Fin 1536 → EReal) (hg : ∀ d, max (g d) (-(g d)) ≤ Ideal.ofBits .f32 0x7F7FFFFF#32) :
    ∃ r : ℝ, 0 ≤ r ∧ r < (2 : ℝ) ^ (126 : ℤ) ∧ top (y R g) = (r : EReal) := by
  obtain ⟨c, hc, hc', hC⟩ := c448
  obtain ⟨i, hi, hI, hb⟩ := inv_real R
  have hB : ∀ d, max (y R g d) (-(y R g d)) ≤ ((40 * (16777215 * (2 : ℝ) ^ (104 : ℤ)) : ℝ) : EReal) := by
    intro d
    rcases hb with h0 | hb
    · unfold y
      rw [hI, h0, EReal.coe_zero, mul_zero, zero_mul, neg_zero, max_self]
      exact_mod_cast (by positivity : (0 : ℝ) ≤ 40 * (16777215 * (2 : ℝ) ^ (104 : ℤ)))
    · obtain ⟨r, hr, hri⟩ := hb d
      have hgd := hg d
      rw [cmax] at hgd
      unfold y
      rw [hI, hr]
      generalize g d = x at *
      induction x with
      | bot => exact absurd ((le_max_right (⊥ : EReal) (-⊥)).trans hgd) (by rw [EReal.neg_bot]; exact not_le.2 (EReal.coe_lt_top _))
      | top => exact absurd ((le_max_left (⊤ : EReal) (-⊤)).trans hgd) (not_le.2 (EReal.coe_lt_top _))
      | coe x =>
        have hx : |x| ≤ 16777215 * (2 : ℝ) ^ (104 : ℤ) := by
          rw [abs_le']; exact ⟨by exact_mod_cast (le_max_left _ _).trans hgd, by exact_mod_cast (le_max_right _ _).trans hgd⟩
        have h2 : |r * i * x| ≤ 40 * (16777215 * (2 : ℝ) ^ (104 : ℤ)) := by
          rw [abs_mul, abs_mul, abs_of_nonneg hi]
          exact mul_le_mul hri hx (abs_nonneg _) (by norm_num)
        rw [abs_le'] at h2
        refine max_le ?_ ?_
        · exact_mod_cast h2.1
        · exact_mod_cast h2.2
  unfold top
  rw [cbot, hC, ← fold_zero _ (fun d => abs_nonneg' _)]
  have hF : Finset.univ.fold max 0 (fun d => max (y R g d) (-(y R g d))) ≤ ((40 * (16777215 * (2 : ℝ) ^ (104 : ℤ)) : ℝ) : EReal) :=
    Finset.fold_max_le _ |>.2 ⟨by exact_mod_cast (by positivity : (0 : ℝ) ≤ 40 * (16777215 * (2 : ℝ) ^ (104 : ℤ))), fun d _ => hB d⟩
  have hF0 : 0 ≤ Finset.univ.fold max 0 (fun d => max (y R g d) (-(y R g d))) := Finset.le_fold_max _ |>.2 (Or.inl le_rfl)
  generalize Finset.univ.fold max 0 (fun d => max (y R g d) (-(y R g d))) = a at *
  induction a with
  | bot => simp at hF0
  | top => exact absurd hF (not_le.2 (EReal.coe_lt_top _))
  | coe a =>
    have ha : 0 ≤ a := by exact_mod_cast hF0
    have hA : a ≤ 40 * (16777215 * (2 : ℝ) ^ (104 : ℤ)) := by exact_mod_cast hF
    refine ⟨a * c, by positivity, ?_, by rw [EReal.coe_mul]⟩
    calc a * c ≤ 40 * (16777215 * (2 : ℝ) ^ (104 : ℤ)) * (1 / 256) := mul_le_mul hA hc'.le hc.le (by positivity)
      _ < (2 : ℝ) ^ (126 : ℤ) := by norm_num

/-! ## The exponent -/

theorem field_bits : ∀ L : Fin 256, (IntOp.shli .vector (BitVec.ofNat 32 L.val) 23#32).extractLsb' 31 1 = 0#1
    ∧ ((IntOp.shli .vector (BitVec.ofNat 32 L.val) 23#32).extractLsb' 23 8).toNat = L.val
    ∧ ((IntOp.shli .vector (BitVec.ofNat 32 L.val) 23#32).extractLsb' 0 23).toNat = 0 := by decide +kernel

theorem ieee_normal (w : BitVec 32) (L : ℕ) (h1 : 1 ≤ L) (h2 : L ≤ 254) (e1 : w.extractLsb' 31 1 = 0#1)
    (e2 : (w.extractLsb' 23 8).toNat = L) (e3 : (w.extractLsb' 0 23).toNat = 0) :
    Ideal.ofBits .f32 w = (((2 : ℝ) ^ ((L : ℤ) - 127) : ℝ) : EReal) := by
  show Ideal.ieee 8 23 w = _
  unfold Ideal.ieee
  simp only [Nat.reduceAdd, e1, e2, e3]
  rw [if_neg (by omega), if_neg (by omega)]
  congr 1
  have e : ((2 ^ 23 + 0 : ℕ) : ℝ) = (2 : ℝ) ^ (23 : ℤ) := by norm_num
  rw [if_neg (by decide), one_mul, e, ← zpow_add₀ (by norm_num)]
  congr 1; norm_num

/-- The float whose bits are the exponent field `L` alone is the power of two `2 ^ (L - 127)`. -/
theorem pow_bits (L : ℕ) (h1 : 1 ≤ L) (h2 : L ≤ 254) :
    Ideal.ofBits .f32 (IntOp.shli .vector (BitVec.ofNat 32 L) 23#32) = (((2 : ℝ) ^ ((L : ℤ) - 127) : ℝ) : EReal) := by
  obtain ⟨e1, e2, e3⟩ := field_bits ⟨L, by omega⟩
  exact ieee_normal _ L h1 h2 e1 e2 e3

theorem pow_bits_last : Ideal.ofBits .f32 (IntOp.shli .vector (BitVec.ofNat 32 255) 23#32) = ⊤ := by
  have : IntOp.shli .vector (BitVec.ofNat 32 255) 23#32 = 0x7F800000#32 := by decide +kernel
  rw [this]; simp [Ideal.ofBits, Ideal.ieee]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The kernel's field of a real is the count `K` of the powers of two not above it. -/
theorem kfield_eq (v : EReal) (K : ℕ) (hK : K ≤ 252)
    (h : ∀ L : Fin 256, 0 < L.val → (Ideal.ofBits .f32 (IntOp.shli .vector (BitVec.ofNat 32 L.val) 23#32) ≤ v ↔ L.val ≤ K)) :
    kfield v = BitVec.ofNat 32 K := by
  unfold kfield
  have hs : ∀ x : Fin 256, Scalar.select (IntOp.andi (IntOp.cmpi .sgt (BitVec.ofNat 32 x.val) 0#32)
      (BitVec.ofBool (decide (Ideal.ofBits .f32 (IntOp.shli .vector (BitVec.ofNat 32 x.val) 23#32) ≤ v)))) (1 : EReal) 0
      = ((if 0 < x.val ∧ x.val ≤ K then 1 else 0 : ℝ) : EReal) := by
    intro x
    have hx : IntOp.cmpi .sgt (BitVec.ofNat 32 x.val) 0#32 = BitVec.ofBool (decide (0 < x.val)) := by revert x; decide +kernel
    rw [hx]
    by_cases h0 : 0 < x.val
    · by_cases h1 : x.val ≤ K
      · rw [if_pos ⟨h0, h1⟩, decide_eq_true h0, decide_eq_true ((h x h0).2 h1)]; rfl
      · rw [if_neg (fun h => h1 h.2), decide_eq_true h0, decide_eq_false (fun h2 => h1 ((h x h0).1 h2))]; rfl
    · rw [if_neg (fun h => h0 h.1), decide_eq_false h0]
      cases decide (Ideal.ofBits .f32 (IntOp.shli .vector (BitVec.ofNat 32 x.val) 23#32) ≤ v) <;> rfl
  rw [Finset.sum_congr rfl fun x _ => hs x, coe_sum, Finset.sum_boole]
  have hc : ∀ K : Fin 253, (Finset.univ.filter fun x : Fin 256 => 0 < x.val ∧ x.val ≤ K.val).card = K.val := by decide +kernel
  rw [hc ⟨K, by omega⟩]
  unfold Ideal.fptosi
  rw [Ideal.toIntClamped_coe, if_pos (by positivity), Int.floor_natCast]
  apply BitVec.eq_of_toNat_eq
  have e : max (-((2 ^ (32 - 1) : ℕ) : ℤ)) (min (((2 ^ (32 - 1) : ℕ) : ℤ) - 1) (K : ℤ)) = (K : ℤ) := by norm_num; omega
  rw [e]; simp

/-- The reference's and the kernel's exponents of a row agree: both scale by the same power of two. -/
theorem scale_eq (r : ℝ) (h0 : 0 ≤ r) (h1 : r < (2 : ℝ) ^ (126 : ℤ)) :
    kscale r = scale r
    ∧ Ideal.ofBits .f32 (IntOp.shli .vector (IntOp.subi 127#32 (kex r)) 23#32) = Ideal.exp2 (0 - expo r) := by
  unfold kscale scale expo
  rw [cmin]
  have h2 : (0 : ℝ) < Real.log 2 := Real.log_pos (by norm_num)
  by_cases hs : r < (2 : ℝ) ^ (-126 : ℤ)
  · have hf : kfield r = BitVec.ofNat 32 0 := by
      refine kfield_eq _ 0 (by omega) fun L hL => ?_
      refine iff_of_false (not_le.2 ?_) (by omega)
      rcases eq_or_lt_of_le (show L.val ≤ 255 by omega) with h | h
      · rw [h, pow_bits_last]; exact EReal.coe_lt_top _
      · rw [pow_bits L.val (by omega) (by omega), EReal.coe_lt_coe_iff]
        exact hs.trans_le (zpow_le_zpow_right₀ (by norm_num) (by omega))
    have hk : kex r = 0#32 := by unfold kex; rw [hf]; rfl
    rw [hk, if_pos (by exact_mod_cast hs)]
    have e0 : Ideal.exp2 0 = 1 := by
      show ((Real.rpow 2 0 : ℝ) : EReal) = 1
      simp
    have eb : IntOp.addi 127#32 0#32 = BitVec.ofNat 32 127 := rfl
    have eb' : IntOp.subi 127#32 0#32 = BitVec.ofNat 32 127 := rfl
    rw [eb, eb', pow_bits 127 (by omega) (by omega), sub_zero, e0]
    norm_num
  · rw [not_lt] at hs
    have hr : 0 < r := lt_of_lt_of_le (by positivity) hs
    set f : ℤ := ⌊Real.log r / Real.log 2⌋ with hf
    have key : ∀ n : ℤ, (2 : ℝ) ^ n ≤ r ↔ n ≤ f := by
      intro n
      rw [hf, Int.le_floor, le_div_iff₀ h2, ← Real.log_zpow, Real.log_le_log_iff (by positivity) hr]
    have hf1 : -126 ≤ f := (key _).1 hs
    have hf2 : f ≤ 125 := by
      by_contra hn
      exact absurd ((key 126).2 (by omega)) (not_le.2 h1)
    obtain ⟨K, hK⟩ : ∃ K : ℕ, f = K - 127 := ⟨(f + 127).toNat, by omega⟩
    have hfK : kfield r = BitVec.ofNat 32 K := by
      refine kfield_eq _ K (by omega) fun L hL => ?_
      rcases eq_or_lt_of_le (show L.val ≤ 255 by omega) with h | h
      · rw [h, pow_bits_last]
        exact iff_of_false (not_le.2 (EReal.coe_lt_top _)) (by omega)
      · rw [pow_bits L.val (by omega) (by omega), EReal.coe_le_coe_iff, key]
        omega
    have hk : ∀ K : Fin 253, 1 ≤ K.val → IntOp.addi 127#32 (Scalar.select (IntOp.cmpi .eq (BitVec.ofNat 32 K.val) 0#32) 0#32 (IntOp.subi (BitVec.ofNat 32 K.val) 126#32)) = BitVec.ofNat 32 (K.val + 1)
        ∧ IntOp.subi 127#32 (Scalar.select (IntOp.cmpi .eq (BitVec.ofNat 32 K.val) 0#32) 0#32 (IntOp.subi (BitVec.ofNat 32 K.val) 126#32)) = BitVec.ofNat 32 (253 - K.val) := by decide +kernel
    obtain ⟨k1, k2⟩ := hk ⟨K, by omega⟩ (by show 1 ≤ K; omega)
    simp only at k1 k2
    have he : Ideal.liftRound Int.floor (Ideal.div (Ideal.log (r : EReal)) ((Real.log 2 : ℝ) : EReal)) + 1 = (((K : ℝ) - 126 : ℝ) : EReal) := by
      have hl : Ideal.log (r : EReal) = ((Real.log r : ℝ) : EReal) := by
        show (if _ then _ else _) = _
        rw [if_neg (by linarith)]
      rw [hl, Ideal.div_coe h2.ne', ← EReal.coe_mul, Ideal.liftRound_coe, mul_one_div, ← hf, hK]
      rw [← EReal.coe_one, ← EReal.coe_add]
      congr 1; push_cast; ring
    rw [if_neg (by rw [EReal.coe_lt_coe_iff]; linarith), he]
    unfold kex
    rw [hfK, k1, k2, pow_bits _ (by omega) (by omega), pow_bits _ (by omega) (by omega)]
    constructor
    · show _ = ((Real.rpow 2 ((K : ℝ) - 126) : ℝ) : EReal)
      congr 1
      rw [← Real.rpow_intCast]
      show _ = (2 : ℝ) ^ ((K : ℝ) - 126)
      congr 1; push_cast; ring
    · rw [← EReal.coe_zero, ← EReal.coe_sub]
      show _ = ((Real.rpow 2 (0 - ((K : ℝ) - 126)) : ℝ) : EReal)
      congr 1
      rw [← Real.rpow_intCast]
      show _ = (2 : ℝ) ^ (0 - ((K : ℝ) - 126))
      congr 1; push_cast [show K ≤ 253 by omega]; ring

/-- The kernel's scale of a row is the reference's. -/
theorem kscale_top (R g : Fin 1536 → EReal) (hg : ∀ d, max (g d) (-(g d)) ≤ Ideal.ofBits .f32 0x7F7FFFFF#32) :
    kscale (ktop R g) = scale (top (y R g)) := by
  obtain ⟨r, h0, h1, hr⟩ := top_real R g hg
  rw [ktop_eq, hr]; exact (scale_eq r h0 h1).1

/-- The kernel's codes of a row are the reference's. -/
theorem kcd_top (R g : Fin 1536 → EReal) (hg : ∀ d, max (g d) (-(g d)) ≤ Ideal.ofBits .f32 0x7F7FFFFF#32) (d : Fin 1536) :
    kcd R g (ktop R g) d = cd (y R g d) (top (y R g)) := by
  obtain ⟨r, h0, h1, hr⟩ := top_real R g hg
  unfold kcd cd
  rw [ktop_eq, hr, (scale_eq r h0 h1).2, kinv_eq, ← mul_assoc]
  unfold y
  rw [mul_right_comm (R d)]

end Cert.Row

end
-- ==== Proof.Rows.lean ====
/-
  Hand-written, untrusted. The norm, the scale exponent and the codes of each of the 32 token rows of a trip, from the row's residual.
-/
module

public import proofs.«01_k».proof.Proof.Block
public import proofs.«01_k».proof.Proof.Maths

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

/-! ## The scalar forms of the row functions -/

/-- The row of the two halves of 16 rows. -/
abbrev mrow (h : Fin 2) (r : Fin 16) : Fin 32 := ⟨16 * h.val + r.val, by omega⟩

theorem pay494_apply (s0 s1 : FVec Ideal S16x128 .f32) (m : Fin 32) : k0_pay494 s0 s1 (ix2 m 0)
    = Ideal.rsqrt ((∑ x : Fin 128, if h : m.val < 16 then s0 (ix2 ⟨m.val, h⟩ x) else s1 (ix2 ⟨m.val - 16, by omega⟩ x)) * ((1 / 1536 : ℝ) : EReal) + Ideal.ofBits .f32 897988541#32) := by
  pointwise [k0_pay494]
  rfl

theorem pay495_apply (s0 a0 a1 s1 b : FVec Ideal S16x128 .f32) (m : Fin 32) : k0_pay495 s0 a0 a1 s1 b (ix2 m 0)
    = Row.kex (Finset.fold max (Ideal.ofBits .f32 4286578688#32) (fun x : Fin 128 => if h : m.val < 16 then a0 (ix2 ⟨m.val, h⟩ x) else max (a1 (ix2 ⟨m.val - 16, by omega⟩ x)) (b (ix2 ⟨m.val - 16, by omega⟩ x))) Finset.univ * k0_pay494 s0 s1 (ix2 m 0) * Ideal.ofBits .f32 991054117#32) := by
  pointwise [k0_pay495]
  rfl

theorem pay498_apply (inv : FVec Ideal S32x1 .f32) (w : IVec S32x1 32) (rg : FVec Ideal S32x1536 .f32) (m : Fin 32) (d : Fin 1536) : k0_pay498 inv w 23#32 rg (ix2 m d)
    = min (Ideal.ofBits .f32 1138753536#32) (max (Ideal.ofBits .f32 3286237184#32) (rg (ix2 m d) * (inv (ix2 m 0) * Ideal.ofBits .f32 (IntOp.shli .vector (w (ix2 m 0)) 23#32)))) := by
  pointwise [k0_pay498]

/-! ## The sums and maxima over the twelve blocks of 128 channels -/

theorem foldl_apply {α : Type} (op : EReal → EReal → EReal) (f : α → FVec Ideal S16x128 .f32) (F : FVec Ideal S16x128 .f32 → FVec Ideal S16x128 .f32 → FVec Ideal S16x128 .f32)
    (hF : ∀ a b i, F a b i = op (a i) (b i)) (l : List α) (z : FVec Ideal S16x128 .f32) (i) :
    l.foldl (fun a n => F a (f n)) z i = l.foldl (fun a n => op a (f n i)) (z i) := by
  induction l generalizing z with
  | nil => rfl
  | cons n l ih => rw [List.foldl_cons, ih, hF]; rfl

theorem sum_blocks (f : Fin 12 → EReal) : blocks.foldl (fun a n => a + f n) 0 = ∑ n, f n := by
  simp only [blocks, List.foldl, Fin.sum_univ_castSucc, Finset.univ_eq_empty, Finset.sum_empty]
  rfl

theorem max_blocks_le (f : Fin 12 → EReal) (c z : EReal) (l : List (Fin 12)) :
    l.foldl (fun a n => max a (f n)) z ≤ c ↔ z ≤ c ∧ ∀ n ∈ l, f n ≤ c := by
  induction l generalizing z with
  | nil => simp
  | cons n l ih => rw [List.foldl_cons, ih, max_le_iff]; simp [and_assoc]

theorem mem_blocks : ∀ n : Fin 12, n ∈ blocks := by decide

/-- A sum over the lanes of a sum over the blocks is the sum over the channels. -/
theorem sum_channels (f : Fin 12 → Fin 128 → EReal) :
    ∑ x : Fin 128, blocks.foldl (fun a n => a + f n x) 0 = ∑ d : Fin 1536, f ⟨d.val / 128, by omega⟩ ⟨d.val % 128, by omega⟩ := by
  simp only [sum_blocks]
  rw [Finset.sum_comm, Fin.sum_univ_tiles 12 128 rfl]
  refine Finset.sum_congr rfl fun n _ => Finset.sum_congr rfl fun x _ => ?_
  congr 1 <;> apply Fin.ext <;> dsimp only <;> omega

/-- A maximum over the lanes of a maximum over the blocks is the maximum over the channels. -/
theorem max_channels (f : Fin 12 → Fin 128 → EReal) :
    Finset.fold max (⊥ : EReal) (fun x : Fin 128 => blocks.foldl (fun a n => max a (f n x)) 0) Finset.univ
      = Finset.univ.fold max 0 (fun d : Fin 1536 => f ⟨d.val / 128, by omega⟩ ⟨d.val % 128, by omega⟩) := by
  refine eq_of_forall_ge_iff fun c => ?_
  rw [Finset.fold_max_le, Finset.fold_max_le]
  simp only [max_blocks_le]
  constructor
  · rintro ⟨-, h⟩
    exact ⟨(h 0 (Finset.mem_univ _)).1, fun d _ => (h _ (Finset.mem_univ _)).2 _ (mem_blocks _)⟩
  · rintro ⟨h0, h⟩
    refine ⟨bot_le, fun x _ => ⟨h0, fun n _ => ?_⟩⟩
    refine le_of_eq_of_le ?_ (h ⟨128 * n.val + x.val, by omega⟩ (Finset.mem_univ _))
    congr 1 <;> apply Fin.ext <;> dsimp only <;> omega

/-! ## The row -/

namespace In

variable (I : In Ideal)

/-- The residual of row `r` of half `h`, by channel. -/
def R (h : Fin 2) (r : Fin 16) (d : Fin 1536) : EReal := I.nr ⟨d.val / 128, by omega⟩ h (ix2 r ⟨d.val % 128, by omega⟩)
/-- The gain, by channel. -/
def g (d : Fin 1536) : EReal := I.gain ⟨d.val / 128, by omega⟩ (ix2 0 ⟨d.val % 128, by omega⟩)

theorem rg_apply (n : Fin 12) (h : Fin 2) (r : Fin 16) (l : Fin 128) : I.rg n h (ix2 r l) = I.nr n h (ix2 r l) * I.gain n (ix2 0 l) := by
  unfold In.rg In.r
  pointwise

theorem ssq_apply (h : Fin 2) (r : Fin 16) (x : Fin 128) (l : List (Fin 12)) :
    I.ssq h l (ix2 r x) = l.foldl (fun a n => a + I.nr n h (ix2 r x) * I.nr n h (ix2 r x)) 0 := by
  unfold In.ssq
  rw [foldl_apply (fun a b => a + b) (fun n => mulf (I.r n h) (I.r n h)) addf (fun _ _ _ => rfl)]
  refine congrArg (fun z => List.foldl (fun a n => a + I.nr n h (ix2 r x) * I.nr n h (ix2 r x)) z l) ?_
  exact Ideal.ofBits_zero_f32

theorem amax_apply (h : Fin 2) (r : Fin 16) (x : Fin 128) (l : List (Fin 12)) :
    I.amax h l (ix2 r x) = l.foldl (fun a n => max a (max (I.nr n h (ix2 r x) * I.gain n (ix2 0 x)) (-(I.nr n h (ix2 r x) * I.gain n (ix2 0 x))))) 0 := by
  unfold In.amax
  rw [foldl_apply (fun a b => max a b) (fun n => absf (I.rg n h)) maximumf (fun _ _ _ => rfl)]
  simp only [← rg_apply]
  refine congrArg (fun z => List.foldl (fun a n => max a (max (I.rg n h (ix2 r x)) (-(I.rg n h (ix2 r x))))) z l) ?_
  exact Ideal.ofBits_zero_f32

theorem sumsq_eq (h : Fin 2) (r : Fin 16) : ∑ x : Fin 128, I.ssq h blocks (ix2 r x) = Row.sumsq (I.R h r) := by
  simp only [ssq_apply]
  exact sum_channels fun n x => I.nr n h (ix2 r x) * I.nr n h (ix2 r x)

theorem top_eq (h : Fin 2) (r : Fin 16) : Finset.fold max (⊥ : EReal) (fun x : Fin 128 => I.amax h blocks (ix2 r x)) Finset.univ
    = Finset.univ.fold max 0 (fun d => max (I.R h r d * I.g d) (-(I.R h r d * I.g d))) := by
  simp only [amax_apply]
  exact max_channels fun n x => max (I.nr n h (ix2 r x) * I.gain n (ix2 0 x)) (-(I.nr n h (ix2 r x) * I.gain n (ix2 0 x)))

theorem inv_apply (h : Fin 2) (r : Fin 16) : I.inv (ix2 (mrow h r) 0) = Row.kinv (I.R h r) := by
  unfold In.inv Row.kinv
  rw [pay494_apply, ← sumsq_eq]
  match h with
  | 0 => simp only [mrow, Fin.val_zero, Nat.mul_zero, Nat.zero_add, Fin.is_lt, dif_pos, Fin.eta]
  | 1 =>
    have h1 : ¬ (16 * (1 : Fin 2).val + r.val < 16) := by simp
    have h2 : (⟨16 * (1 : Fin 2).val + r.val - 16, by have := r.isLt; change 16 * 1 + r.val - 16 < 16; omega⟩ : Fin 16) = r := Fin.ext (by change 16 * 1 + r.val - 16 = r.val; omega)
    simp only [mrow, dif_neg h1, h2]

theorem amax_last (r : Fin 16) (x : Fin 128) : max (I.amax 1 blocks' (ix2 r x)) (absf (I.rg 11 1) (ix2 r x)) = I.amax 1 blocks (ix2 r x) := rfl

theorem ex_apply (h : Fin 2) (r : Fin 16) : I.ex (ix2 (mrow h r) 0) = Row.kex (Row.ktop (I.R h r) I.g) := by
  have hinv := I.inv_apply h r
  unfold In.inv at hinv
  unfold In.ex Row.ktop
  rw [pay495_apply, hinv, ← top_eq, Row.cbot]
  clear hinv
  have key : (fun x : Fin 128 => if h' : (mrow h r).val < 16 then I.amax 0 blocks (ix2 ⟨(mrow h r).val, h'⟩ x)
      else max (I.amax 1 blocks' (ix2 ⟨(mrow h r).val - 16, by have := (mrow h r).isLt; omega⟩ x)) (absf (I.rg 11 1) (ix2 ⟨(mrow h r).val - 16, by have := (mrow h r).isLt; omega⟩ x)))
      = fun x => I.amax h blocks (ix2 r x) := by
    funext x
    match h with
    | 0 =>
      rw [dif_pos (show (mrow 0 r).val < 16 by change 16 * 0 + r.val < 16; omega)]
      exact congrArg (fun q => I.amax 0 blocks (ix2 q x)) (Fin.ext (by change 16 * 0 + r.val = r.val; omega))
    | 1 =>
      rw [dif_neg (show ¬ (mrow 1 r).val < 16 by change ¬ (16 * 1 + r.val < 16); omega)]
      have h2 : (⟨(mrow 1 r).val - 16, by have := (mrow 1 r).isLt; omega⟩ : Fin 16) = r := Fin.ext (by change 16 * 1 + r.val - 16 = r.val; omega)
      rw [h2]
      exact I.amax_last r x
  rw [key]

theorem codes_apply (rg : Vec Ideal S32x1536 .f32) (h : Fin 2) (r : Fin 16) (d : Fin 1536) (hrg : rg (ix2 (mrow h r) d) = I.R h r d * I.g d) :
    I.codes rg (ix2 (mrow h r) d) = Row.kcd (I.R h r) I.g (Row.ktop (I.R h r) I.g) d := by
  unfold In.codes Row.kcd
  rw [pay498_apply, hrg, inv_apply]
  have hs : subi (broadcast S32x1 127#32) I.ex (ix2 (mrow h r) 0) = IntOp.subi 127#32 (I.ex (ix2 (mrow h r) 0)) := rfl
  rw [hs, ex_apply]

theorem scale_apply (h : Fin 2) (r : Fin 16) : I.scale (ix2 (mrow h r) 0) = Row.kscale (Row.ktop (I.R h r) I.g) := by
  unfold In.scale Row.kscale
  rw [← ex_apply]
  rfl

end In

theorem row_eq : ∀ k : Fin k0_t1_loop.trips, row k = BitVec.ofNat 32 (32 * k.val) := by decide +kernel

theorem acc_sum (I : In Ideal) (k) (a : FVec Ideal S1x256 .f32) (l : Fin 256) : I.acc k a (ix2 0 l)
    = a (ix2 0 l) + ∑ x : Fin 32, Scalar.select (IntOp.cmpi .eq (BitVec.ofNat 32 l.val) (IntOp.addi (BitVec.ofNat 32 x.val) (row k))) (I.scale (ix2 x 0)) 0 := by
  unfold In.acc
  generalize I.scale = s
  pointwise [k0_pay7]

theorem sel_eq (k : Fin k0_t1_loop.trips) (l : Fin 256) (x : Fin 32) (s : EReal) :
    Scalar.select (IntOp.cmpi .eq (BitVec.ofNat 32 l.val) (IntOp.addi (BitVec.ofNat 32 x.val) (row k))) s (0 : EReal)
      = if l.val = 32 * k.val + x.val then s else 0 := by
  have hk : k.val < 8 := k.isLt
  have hl := l.isLt
  have hx := x.isLt
  rw [row_eq]
  have e : (BitVec.ofNat 32 l.val = BitVec.ofNat 32 x.val + BitVec.ofNat 32 (32 * k.val)) ↔ l.val = 32 * k.val + x.val := by
    rw [← BitVec.ofNat_add, ← BitVec.toNat_inj, BitVec.toNat_ofNat, BitVec.toNat_ofNat]
    omega
  by_cases h : l.val = 32 * k.val + x.val
  · have h' := e.2 h
    rw [if_pos h]
    unfold Scalar.select
    simp [IntOp.cmpi, IntOp.addi, h']
  · have h' : (BitVec.ofNat 32 l.val == BitVec.ofNat 32 x.val + BitVec.ofNat 32 (32 * k.val)) = false := beq_eq_false_iff_ne.2 fun q => h (e.1 q)
    rw [if_neg h]
    unfold Scalar.select
    simp [IntOp.cmpi, IntOp.addi, h']

/-- The row of scales after a trip: the trip's 32 lanes get their rows' scales on top of what was there. -/
theorem acc_apply (I : In Ideal) (k : Fin k0_t1_loop.trips) (a : FVec Ideal S1x256 .f32) (l : Fin 256) : I.acc k a (ix2 0 l)
    = a (ix2 0 l) + if h : l.val / 32 = k.val then I.scale (ix2 ⟨l.val % 32, by omega⟩ 0) else 0 := by
  rw [acc_sum]
  simp only [sel_eq]
  congr 1
  split
  · next h =>
    rw [Finset.sum_eq_single (⟨l.val % 32, by omega⟩ : Fin 32)]
    · rw [if_pos (by dsimp only; omega)]
    · intro x _ hx
      rw [if_neg]
      intro e
      exact hx (Fin.ext (by dsimp only; omega))
    · intro h; exact absurd (Finset.mem_univ _) h
  · next h =>
    refine Finset.sum_eq_zero fun x _ => if_neg ?_
    have := x.isLt
    omega

end Cert.KernelIdeal.Val

end
-- ==== Proof.Target.lean ====
/-
  Hand-written, untrusted. What the kernel's body leaves in its three output blocks, as functions of its six input blocks.
-/
module

public import proofs.«01_k».proof.Proof.Rows

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

variable (x0 : Vec Ideal S8 .f32) (x1 : Vec Ideal S8x256x768 .i8) (x2 : Vec Ideal S8x256x96 .fp8e4m3)
  (x3 : Vec Ideal S1x1536 .f32) (x4 : Vec Ideal S256x1536 .bf16) (x5 : Vec Ideal S1x1536 .f32)

/-- The residual of token row `t` at channel `d`: the shard scales times codes times block scales, plus the bias, plus the residual
    input. -/
def KR (t : Fin 256) (d : Fin 1536) : EReal :=
  (∑ p : Fin 8, x0 (ix1 p) * (code (x1 (ix3 p t ⟨d.val / 2, by omega⟩)) ⟨d.val % 2, by omega⟩ * x2 (ix3 p t ⟨d.val / 16, by omega⟩)))
    + x3 (ix2 0 d) + x4 (ix2 t d)

/-- The gain of channel `d`. -/
def KG (d : Fin 1536) : EReal := x5 (ix2 0 d)

/-- The constant matrix of the shard scales. -/
def lhsMat : Vec Ideal S96x256 .bf16 := fun y => lhsAt (fun p => x0 (ix1 p)) (y 0) (y 1)

/-- The new residual's block, the codes' block and the row of scales. -/
def out6 : Vec Ideal S256x1536 .bf16 := fun y => KR x0 x1 x2 x3 x4 (y 0) (y 1)
def out7 : Vec Ideal S256x1536 .fp8e4m3 := fun y =>
  Row.kcd (KR x0 x1 x2 x3 x4 (y 0)) (KG x5) (Row.ktop (KR x0 x1 x2 x3 x4 (y 0)) (KG x5)) (y 1)
def out8 : Vec Ideal S1x1x256 .f32 := fun y => Row.kscale (Row.ktop (KR x0 x1 x2 x3 x4 (y 2)) (KG x5))

end Cert.KernelIdeal.Val

end
-- ==== Proof.Lhs.lean ====
/-
  Hand-written, untrusted. The constant matrix the kernel's first point stores: each shard scale split in three bf16 parts, the
  first the scale itself at the ideal instance, the other two the differences, zero for a finite scale.
-/
module

public import proofs.«01_k».proof.Proof.Target
public import proofs.«01_k».proof.Proof.Maths

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

/-- Whether a column holds a row's nibble row of its partial. -/
abbrev maskP : IVec S32x256 1 :=
  k0_pay14 (iota .tc S32x256 32 [0] iota_S32x256_d0_w32) k0_pay9 k0_pay10 16#32 k0_pay11 k0_pay12 k0_pay13
/-- The partial a column belongs to. -/
abbrev partP : IVec S32x256 32 := k0_pay15 (iota .tc S32x256 32 [1] iota_S32x256_d1_w32)
/-- Whether it does and the column is the first partial's. -/
abbrev maskP0 : IVec S32x256 1 :=
  k0_pay17 (iota .tc S32x256 32 [0] iota_S32x256_d0_w32) (iota .tc S32x256 32 [1] iota_S32x256_d1_w32) k0_pay9 k0_pay10 16#32 k0_pay11 k0_pay12 k0_pay13

set_option maxHeartbeats 4000000 in
theorem maskP_apply (r : Fin 32) (l : Fin 256) :
    maskP (ix2 r l) = if l.val % 32 = 2 * (r.val % 16) + r.val / 16 then 1#1 else 0#1 := by
  unfold maskP
  pointwise [k0_pay14, k0_pay9, k0_pay10, k0_pay11, k0_pay12, k0_pay13]
  revert r l; decide +kernel

theorem partP_apply (r : Fin 32) (l : Fin 256) : partP (ix2 r l) = BitVec.ofNat 32 (l.val / 32) := by
  unfold partP
  pointwise [k0_pay15]
  clear r; revert l; decide +kernel

theorem maskP0_apply (r : Fin 32) (l : Fin 256) :
    maskP0 (ix2 r l) = IntOp.andi (maskP (ix2 r l)) (IntOp.cmpi .eq (partP (ix2 r l)) 0#32) := rfl

/-- The chain of selects over the eight partials. -/
theorem chain_apply (w : BitVec 1) (p : Fin 8) (s : Fin 8 → EReal) (hw : w = 1#1 ∨ w = 0#1) :
    (Scalar.select (IntOp.andi w (IntOp.cmpi .eq (BitVec.ofNat 32 p.val) 7#32)) (s 7)
      (Scalar.select (IntOp.andi w (IntOp.cmpi .eq (BitVec.ofNat 32 p.val) 6#32)) (s 6)
      (Scalar.select (IntOp.andi w (IntOp.cmpi .eq (BitVec.ofNat 32 p.val) 5#32)) (s 5)
      (Scalar.select (IntOp.andi w (IntOp.cmpi .eq (BitVec.ofNat 32 p.val) 4#32)) (s 4)
      (Scalar.select (IntOp.andi w (IntOp.cmpi .eq (BitVec.ofNat 32 p.val) 3#32)) (s 3)
      (Scalar.select (IntOp.andi w (IntOp.cmpi .eq (BitVec.ofNat 32 p.val) 2#32)) (s 2)
      (Scalar.select (IntOp.andi w (IntOp.cmpi .eq (BitVec.ofNat 32 p.val) 1#32)) (s 1)
      (Scalar.select (IntOp.andi w (IntOp.cmpi .eq (BitVec.ofNat 32 p.val) 0#32)) (s 0) (0 : EReal)))))))))
      = if w = 1#1 then s p else 0 := by
  rcases hw with rfl | rfl <;> fin_cases p <;> simp [Scalar.select, IntOp.andi, IntOp.cmpi]

/-- The matrix before its split. -/
abbrev fullP (s : Fin 8 → EReal) : FVec Ideal S32x256 .f32 :=
  k0_pay18 (F := Ideal) maskP partP k0_pay16 maskP0 (s 0) (s 1) (s 2) (s 3) (s 4) (s 5) (s 6) (s 7)

theorem fullP_apply (s : Fin 8 → EReal) (r : Fin 32) (l : Fin 256) :
    fullP s (ix2 r l) = if l.val % 32 = 2 * (r.val % 16) + r.val / 16 then s ⟨l.val / 32, by omega⟩ else 0 := by
  have h := chain_apply (maskP (ix2 r l)) ⟨l.val / 32, by omega⟩ s (by rw [maskP_apply]; split <;> simp)
  refine Eq.trans ?_ (h.trans ?_)
  · have hp := partP_apply r l
    have h0 := maskP0_apply r l
    have hz : (Ideal.ofBits .f32 0x00000000#32 : EReal) = 0 := Ideal.ofBits_zero_f32
    rw [hp] at h0
    generalize hM : maskP = M at h0 ⊢
    generalize hM0 : maskP0 = M0 at h0 ⊢
    generalize hP : partP = P at hp
    unfold fullP
    rw [hM, hM0, hP]
    show Scalar.select (IntOp.andi (M (ix2 r l)) (IntOp.cmpi .eq (P (ix2 r l)) 7#32)) (s 7)
      (Scalar.select (IntOp.andi (M (ix2 r l)) (IntOp.cmpi .eq (P (ix2 r l)) 6#32)) (s 6)
      (Scalar.select (IntOp.andi (M (ix2 r l)) (IntOp.cmpi .eq (P (ix2 r l)) 5#32)) (s 5)
      (Scalar.select (IntOp.andi (M (ix2 r l)) (IntOp.cmpi .eq (P (ix2 r l)) 4#32)) (s 4)
      (Scalar.select (IntOp.andi (M (ix2 r l)) (IntOp.cmpi .eq (P (ix2 r l)) 3#32)) (s 3)
      (Scalar.select (IntOp.andi (M (ix2 r l)) (IntOp.cmpi .eq (P (ix2 r l)) 2#32)) (s 2)
      (Scalar.select (IntOp.andi (M (ix2 r l)) (IntOp.cmpi .eq (P (ix2 r l)) 1#32)) (s 1)
      (Scalar.select (M0 (ix2 r l)) (s 0) (Ideal.ofBits .f32 0x00000000#32)))))))) = _
    rw [h0, hp, hz]
  · rw [maskP_apply]
    split <;> simp

/-- A finite value less itself. -/
theorem sub_self_of (x : EReal) (h : max x (-x) ≤ Ideal.ofBits .f32 0x7F7FFFFF#32) : x - x = 0 := by
  rw [Row.cmax] at h
  refine EReal.sub_self ?_ ?_
  · rintro rfl
    exact absurd (le_trans (le_max_left _ _) h) (not_le.2 (EReal.coe_lt_top _))
  · rintro rfl
    exact absurd (le_trans (le_max_right _ _) h) (by rw [EReal.neg_bot]; exact not_le.2 (EReal.coe_lt_top _))

theorem fullP_sub (s : Fin 8 → EReal) (hs : ∀ p, max (s p) (-(s p)) ≤ Ideal.ofBits .f32 0x7F7FFFFF#32) (r : Fin 32) (l : Fin 256) :
    fullP s (ix2 r l) - fullP s (ix2 r l) = 0 := by
  rw [fullP_apply]
  split
  · exact sub_self_of _ (hs _)
  · simp

/-- What the first point stores is the constant matrix of the shard scales. -/
theorem pay1_apply (x0 : Vec Ideal S8 .f32) (hs : ∀ p, max (x0 (ix1 p)) (-(x0 (ix1 p))) ≤ Ideal.ofBits .f32 0x7F7FFFFF#32) :
    k0_pay1 (F := Ideal) (fullP fun p => x0 (ix1 p)) (k0_pay19 (F := Ideal) maskP partP k0_pay16 maskP0 (x0 (ix1 0)) (x0 (ix1 1)) (x0 (ix1 2)) (x0 (ix1 3)) (x0 (ix1 4)) (x0 (ix1 5)) (x0 (ix1 6)) (x0 (ix1 7)))
      = lhsMat x0 := by
  have e19 : k0_pay19 (F := Ideal) maskP partP k0_pay16 maskP0 (x0 (ix1 0)) (x0 (ix1 1)) (x0 (ix1 2)) (x0 (ix1 3)) (x0 (ix1 4)) (x0 (ix1 5)) (x0 (ix1 6)) (x0 (ix1 7))
      = (fullP fun p => x0 (ix1 p) : S32x256.Idx → EReal) := rfl
  rw [e19]
  have h1 := fullP_apply (fun p => x0 (ix1 p))
  have h2 := fullP_sub (fun p => x0 (ix1 p)) hs
  revert h1 h2
  generalize fullP (fun p => x0 (ix1 p)) = A
  intro h1 h2
  funext y
  obtain ⟨M, l, rfl⟩ : ∃ (M : Fin 96) (l : Fin 256), y = ix2 M l := ⟨y 0, y 1, (ix2_eta y).symm⟩
  show _ = lhsAt (fun p => x0 (ix1 p)) M l
  have key : k0_pay1 (F := Ideal) A (A : S32x256.Idx → EReal) (ix2 M l)
      = if h : M.val < 32 then A (ix2 ⟨M.val, h⟩ l) else if h : M.val - 32 < 32 then A (ix2 ⟨M.val - 32, h⟩ l) - A (ix2 ⟨M.val - 32, h⟩ l)
        else A (ix2 ⟨M.val - 32 - 32, by omega⟩ l) - A (ix2 ⟨M.val - 32 - 32, by omega⟩ l) - (A (ix2 ⟨M.val - 32 - 32, by omega⟩ l) - A (ix2 ⟨M.val - 32 - 32, by omega⟩ l)) := by
    pointwise [k0_pay1]
  refine key.trans ?_
  unfold lhsAt
  by_cases a1 : M.val < 32
  · rw [dif_pos a1, h1]
    refine if_congr ?_ rfl rfl
    show l.val % 32 = 2 * (M.val % 16) + M.val / 16 ↔ _
    rw [Nat.mod_eq_of_lt a1]
    exact ⟨fun e => ⟨a1, e⟩, fun e => e.2⟩
  · rw [dif_neg a1, if_neg fun e => a1 e.1]
    by_cases a2 : M.val - 32 < 32
    · rw [dif_pos a2, h2]
    · rw [dif_neg a2, h2, sub_zero]

end Cert.KernelIdeal.Val

end
-- ==== Proof.Reads.lean ====
/-
  Hand-written, untrusted. What one trip reads, entry by entry of the blocks the body was called with, and so what it computes.
-/
module

public import proofs.«01_k».proof.Proof.Target
public import Idealize.ShloMosaic.Lib.Writes
public import Idealize.ShloMosaic.Lib.Pipeline.FrameBody

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-! ## The offsets -/

theorem offB_eq : ∀ k c p, offB k c p = ![p.val, 32 * k.val, 256 * c.val] := by decide +kernel
theorem offX_eq : ∀ k n h, offX k n h = ![32 * k.val + 16 * h.val, 128 * n.val] := by decide +kernel
theorem off45_eq : ∀ k, k0_off45 k = ![32 * k.val, 0] := by decide +kernel

theorem trips_le (k : Fin k0_t1_loop.trips) : k.val < 8 := k.isLt

/-- An element of a unit-stride rectangle of a matrix. -/
theorem unit_ix2 {n0 n1 m0 m1 : ℕ} (off : Fin 2 → ℕ) (inb : ∀ a, off a + (![m0, m1] : Fin 2 → ℕ) a ≤ (⟨2, ![n0, n1]⟩ : Shape).size a)
    (a : Fin m0) (b : Fin m1) (a' : Fin n0) (b' : Fin n1) (h0 : off 0 + a.val = a'.val) (h1 : off 1 + b.val = b'.val) :
    (Rect.unit (s := ⟨2, ![n0, n1]⟩) off ![m0, m1] inb).emb (ix2 a b) = ix2 a' b' := by
  funext q
  apply Fin.ext
  rw [Rect.emb_apply]
  fin_cases q
  · exact (congrArg (off 0 + ·) (Nat.one_mul a.val)).trans h0
  · exact (congrArg (off 1 + ·) (Nat.one_mul b.val)).trans h1

/-- The same of an array of three axes. -/
theorem unit_ix3 {n0 n1 n2 m0 m1 m2 : ℕ} (off : Fin 3 → ℕ) (inb : ∀ a, off a + (![m0, m1, m2] : Fin 3 → ℕ) a ≤ (⟨3, ![n0, n1, n2]⟩ : Shape).size a)
    (a : Fin m0) (b : Fin m1) (c : Fin m2) (a' : Fin n0) (b' : Fin n1) (c' : Fin n2)
    (h0 : off 0 + a.val = a'.val) (h1 : off 1 + b.val = b'.val) (h2 : off 2 + c.val = c'.val) :
    (Rect.unit (s := ⟨3, ![n0, n1, n2]⟩) off ![m0, m1, m2] inb).emb (ix3 a b c) = ix3 a' b' c' := by
  funext q
  apply Fin.ext
  rw [Rect.emb_apply]
  fin_cases q
  · exact (congrArg (off 0 + ·) (Nat.one_mul a.val)).trans h0
  · exact (congrArg (off 1 + ·) (Nat.one_mul b.val)).trans h1
  · exact (congrArg (off 2 + ·) (Nat.one_mul c.val)).trans h2

section
variable (arg2 : Memref sig .tc .vmem S8x256x768 .i8) (arg3 : Memref sig .tc .vmem S8x256x96 .fp8e4m3)
  (arg4 : Memref sig .tc .vmem S1x1536 .f32) (arg5 : Memref sig .tc .vmem S256x1536 .bf16) (arg6 : Memref sig .tc .vmem S1x1536 .f32)
  (arg10 : Memref sig .tc .vmem S96x256 .bf16) (arg11 : Memref sig .tc .vmem S8x32x128 .f32)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X10 : BufTy.Contents (Elt Ideal) arg10.view.ty)
  (f11 : BufTy.Contents (Elt Ideal) arg11.view.ty) (k : Fin k0_t1_loop.trips)

/-- The token row of row `m` of trip `k`. -/
abbrev trow (k : Fin k0_t1_loop.trips) (m : Fin 32) : Fin 256 := ⟨32 * k.val + m.val, by have := trips_le k; omega⟩

theorem drop_bytes (z : Vec Ideal S1x32x256 .i8) (m : Fin 32) (j : Fin 256) : shapeCast S32x256 z shapeCasts_S1x32x256_S32x256 (ix2 m j) = z (ix3 0 m j) := by
  pointwise

theorem drop_scw (z : Vec Ideal S1x32x128 .f32) (m : Fin 32) (j : Fin 128) : shapeCast S32x128 z shapeCasts_S1x32x128_S32x128 (ix2 m j) = z (ix3 0 m j) := by
  pointwise

theorem bytes_apply (c : Fin 3) (p : Fin 8) (m : Fin 32) (j : Fin 256) :
    (inOf arg2 arg3 arg4 arg5 arg6 arg10 arg11 X2 X3 X4 X5 X6 X10 f11 k).bytes c p (ix2 m j)
      = arg2.view.read (Elt Ideal) X2 (ix3 p (trow k m) ⟨256 * c.val + j.val, by omega⟩) := by
  unfold inOf
  dsimp only
  refine (drop_bytes _ m j).trans ?_
  exact congrArg (arg2.view.read (Elt Ideal) X2) (unit_ix3 (n0 := 8) (n1 := 256) (n2 := 768) (m0 := 1) (m1 := 32) (m2 := 256) (offB k c p) (offB_inb k c p) 0 m j
    p (trow k m) ⟨256 * c.val + j.val, by omega⟩ (congrFun (offB_eq k c p) 0) (congrArg (· + m.val) (congrFun (offB_eq k c p) 1))
    (congrArg (· + j.val) (congrFun (offB_eq k c p) 2)))

theorem bias_apply (n : Fin 12) (l : Fin 128) :
    (inOf arg2 arg3 arg4 arg5 arg6 arg10 arg11 X2 X3 X4 X5 X6 X10 f11 k).bias n (ix2 0 l)
      = arg4.view.read (Elt Ideal) X4 (ix2 0 ⟨128 * n.val + l.val, by omega⟩) := by
  unfold inOf
  dsimp only
  generalize hz : View.readAt (Elt Ideal) arg4.view (Rect.unit (s := S1x1536) (offV n) S1x128.size (offV_inb n)).toLoadRect X4 = z
  pointwise
  rw [← hz]
  exact congrArg (arg4.view.read (Elt Ideal) X4) (unit_ix2 (n0 := 1) (n1 := 1536) (m0 := 1) (m1 := 128) (offV n) (offV_inb n) 0 l 0 ⟨128 * n.val + l.val, by omega⟩ rfl rfl)

theorem gain_apply (n : Fin 12) (l : Fin 128) :
    (inOf arg2 arg3 arg4 arg5 arg6 arg10 arg11 X2 X3 X4 X5 X6 X10 f11 k).gain n (ix2 0 l)
      = arg6.view.read (Elt Ideal) X6 (ix2 0 ⟨128 * n.val + l.val, by omega⟩) := by
  unfold inOf
  dsimp only
  generalize hz : View.readAt (Elt Ideal) arg6.view (Rect.unit (s := S1x1536) (offV n) S1x128.size (offV_inb n)).toLoadRect X6 = z
  pointwise
  rw [← hz]
  exact congrArg (arg6.view.read (Elt Ideal) X6) (unit_ix2 (n0 := 1) (n1 := 1536) (m0 := 1) (m1 := 128) (offV n) (offV_inb n) 0 l 0 ⟨128 * n.val + l.val, by omega⟩ rfl rfl)

theorem x_apply (n : Fin 12) (h : Fin 2) (r : Fin 16) (l : Fin 128) :
    (inOf arg2 arg3 arg4 arg5 arg6 arg10 arg11 X2 X3 X4 X5 X6 X10 f11 k).x n h (ix2 r l)
      = arg5.view.read (Elt Ideal) X5 (ix2 (trow k (mrow h r)) ⟨128 * n.val + l.val, by omega⟩) := by
  unfold inOf
  dsimp only
  generalize hz : View.readAt (Elt Ideal) arg5.view (Rect.unit (s := S256x1536) (offX k n h) S16x128.size (offX_inb k n h)).toLoadRect X5 = z
  pointwise
  rw [← hz]
  exact congrArg (arg5.view.read (Elt Ideal) X5) (unit_ix2 (n0 := 256) (n1 := 1536) (m0 := 16) (m1 := 128) (offX k n h) (offX_inb k n h) r l
    (trow k (mrow h r)) ⟨128 * n.val + l.val, by omega⟩ ((congrArg (· + r.val) (congrFun (offX_eq k n h) 0)).trans (Nat.add_assoc _ _ _))
    (congrArg (· + l.val) (congrFun (offX_eq k n h) 1)))

theorem lhs_apply (m : Fin 96) (j : Fin 256) :
    (inOf arg2 arg3 arg4 arg5 arg6 arg10 arg11 X2 X3 X4 X5 X6 X10 f11 k).lhs (ix2 m j) = arg10.view.read (Elt Ideal) X10 (ix2 m j) := by
  unfold inOf
  dsimp only
  exact congrArg (arg10.view.read (Elt Ideal) X10) (unit_ix2 (n0 := 96) (n1 := 256) (m0 := 96) (m1 := 256) ![0, 0] inb_S96x256_S96x256_0_0 m j m j (Nat.zero_add _) (Nat.zero_add _))

/-- What the first 96 lanes of the scale scratch hold after the trip's eight stores. -/
def scwAt (y : S8x32x128.Idx) : EReal :=
  if h : (y 2).val < 96 then arg3.view.read (Elt Ideal) X3 (ix3 (y 0) (trow k (y 1)) ⟨(y 2).val, h⟩) else 0

theorem scw_piece (p : Fin 8) (off : Fin 3 → ℕ) (hoff : off = ![p.val, 32 * k.val, 0]) (inb : ∀ a, off a + S1x32x96.size a ≤ S8x256x96.size a)
    (off' : Fin 3 → ℕ) (hoff' : off' = ![p.val, 0, 0]) (inb' : ∀ a, off' a + S1x32x96.size a ≤ S8x32x128.size a) (a : Fin 1) (b : Fin 32) (c : Fin 96) :
    arg3.view.read (Elt Ideal) X3 ((Rect.unit (s := S8x256x96) off S1x32x96.size inb).emb (ix3 a b c))
      = scwAt arg3 X3 k ((Rect.unit (s := S8x32x128) off' S1x32x96.size inb').emb (ix3 a b c)) := by
  have ha : a.val = 0 := by omega
  have e1 : (Rect.unit (s := S8x256x96) off S1x32x96.size inb).emb (ix3 a b c) = ix3 p (trow k b) c :=
    unit_ix3 (n0 := 8) (n1 := 256) (n2 := 96) (m0 := 1) (m1 := 32) (m2 := 96) off inb a b c p (trow k b) c
      (by rw [hoff]; change p.val + a.val = p.val; omega) (by rw [hoff]; rfl) (by rw [hoff]; exact Nat.zero_add _)
  have e2 : (Rect.unit (s := S8x32x128) off' S1x32x96.size inb').emb (ix3 a b c) = ix3 p b ⟨c.val, by omega⟩ :=
    unit_ix3 (n0 := 8) (n1 := 32) (n2 := 128) (m0 := 1) (m1 := 32) (m2 := 96) off' inb' a b c p b ⟨c.val, by omega⟩
      (by rw [hoff']; change p.val + a.val = p.val; omega) (by rw [hoff']; exact Nat.zero_add _) (by rw [hoff']; exact Nat.zero_add _)
  rw [e1, e2]
  unfold scwAt
  rw [dif_pos (show ((ix3 p b ⟨c.val, by omega⟩ : S8x32x128.Idx) 2).val < 96 from c.isLt)]
  rfl

theorem offs_eq : ∀ k, k0_off1 k = ![0, 32 * k.val, 0] ∧ k0_off2 k = ![1, 32 * k.val, 0] ∧ k0_off3 k = ![2, 32 * k.val, 0] ∧ k0_off4 k = ![3, 32 * k.val, 0]
    ∧ k0_off5 k = ![4, 32 * k.val, 0] ∧ k0_off6 k = ![5, 32 * k.val, 0] ∧ k0_off7 k = ![6, 32 * k.val, 0] ∧ k0_off8 k = ![7, 32 * k.val, 0] := by decide +kernel

/-- A cast of a shape to itself through another of the same count, at an index. -/
theorem piece_cast (z : Vec Ideal S1x32x96 .fp8e4m3) (a : Fin 1) (b : Fin 32) (c : Fin 96) :
    shapeCast S1x32x96 (extf (F := Ideal) .f32 (shapeCast S32x96 z shapeCasts_S1x32x96_S32x96) bitsLt_fp8e4m3_f32) shapeCasts_S32x96_S1x32x96 (ix3 a b c) = z (ix3 a b c) := by
  pointwise
  exact congrArg (fun q => z (ix3 q b c)) (Subsingleton.elim _ _)

theorem scw_pieces : ∀ q ∈ trip_k0_t1.sl.HW_arg11_8 (F := Ideal) arg3 X3 k, ∀ y, q.2 y = scwAt arg3 X3 k (q.1.emb y) := by
  obtain ⟨e1, e2, e3, e4, e5, e6, e7, e8⟩ := offs_eq k
  have key : ∀ (p : Fin 8) (off : Fin 3 → ℕ) (hoff : off = ![p.val, 32 * k.val, 0]) (inb : ∀ a, off a + S1x32x96.size a ≤ S8x256x96.size a)
      (off' : Fin 3 → ℕ) (hoff' : off' = ![p.val, 0, 0]) (inb' : ∀ a, off' a + S1x32x96.size a ≤ S8x32x128.size a) (y : S1x32x96.Idx),
      shapeCast S1x32x96 (extf (F := Ideal) .f32 (shapeCast S32x96 (View.readAt (Elt Ideal) arg3.view (Rect.unit (s := S8x256x96) off S1x32x96.size inb).toLoadRect X3) shapeCasts_S1x32x96_S32x96) bitsLt_fp8e4m3_f32) shapeCasts_S32x96_S1x32x96 y
        = scwAt arg3 X3 k ((Rect.unit (s := S8x32x128) off' S1x32x96.size inb').emb y) := by
    intro p off hoff inb off' hoff' inb' y
    obtain ⟨a, b, c, rfl⟩ : ∃ (a : Fin 1) (b : Fin 32) (c : Fin 96), y = ix3 a b c := ⟨y 0, y 1, y 2, (ix3_eta y).symm⟩
    rw [piece_cast]
    exact scw_piece arg3 X3 k p off hoff inb off' hoff' inb' a b c
  intro q hq
  unfold trip_k0_t1.sl.HW_arg11_8 at hq
  simp only [List.mem_cons, List.not_mem_nil, or_false] at hq
  rcases hq with rfl | rfl | rfl | rfl | rfl | rfl | rfl | rfl
  · exact key 7 _ e8 (k0_off8_inb k) _ rfl inb_S8x32x128_S1x32x96_7_0_0
  · exact key 6 _ e7 (k0_off7_inb k) _ rfl inb_S8x32x128_S1x32x96_6_0_0
  · exact key 5 _ e6 (k0_off6_inb k) _ rfl inb_S8x32x128_S1x32x96_5_0_0
  · exact key 4 _ e5 (k0_off5_inb k) _ rfl inb_S8x32x128_S1x32x96_4_0_0
  · exact key 3 _ e4 (k0_off4_inb k) _ rfl inb_S8x32x128_S1x32x96_3_0_0
  · exact key 2 _ e3 (k0_off3_inb k) _ rfl inb_S8x32x128_S1x32x96_2_0_0
  · exact key 1 _ e2 (k0_off2_inb k) _ rfl inb_S8x32x128_S1x32x96_1_0_0
  · exact key 0 _ e1 (k0_off1_inb k) _ rfl inb_S8x32x128_S1x32x96_0_0_0

theorem scw_cover (p : Fin 8) (m : Fin 32) (j : Fin 128) (hj : j.val < 96) :
    ∃ q ∈ trip_k0_t1.sl.HW_arg11_8 (F := Ideal) arg3 X3 k, (ix3 p m j : S8x32x128.Idx) ∈ q.1.set := by
  have key : ∀ (off : Fin 3 → ℕ) (hoff : off = ![p.val, 0, 0]) (inb : ∀ a, off a + S1x32x96.size a ≤ S8x32x128.size a),
      (ix3 p m j : S8x32x128.Idx) ∈ (Rect.unit (s := S8x32x128) off S1x32x96.size inb).set := by
    intro off hoff inb
    rw [← Rect.map_emb_univ]
    refine Finset.mem_map.2 ⟨(ix3 (0 : Fin 1) m (⟨j.val, hj⟩ : Fin 96) : S1x32x96.Idx), Finset.mem_univ _, ?_⟩
    exact unit_ix3 (n0 := 8) (n1 := 32) (n2 := 128) (m0 := 1) (m1 := 32) (m2 := 96) off inb 0 m ⟨j.val, hj⟩ p m j
      (by rw [hoff]; rfl) (by rw [hoff]; exact Nat.zero_add _) (by rw [hoff]; exact Nat.zero_add _)
  unfold trip_k0_t1.sl.HW_arg11_8
  simp only [List.mem_cons, List.not_mem_nil, or_false, exists_eq_or_imp, exists_eq_left]
  fin_cases p
  · iterate 7 right
    exact key _ rfl _
  · iterate 6 right
    left; exact key _ rfl _
  · iterate 5 right
    left; exact key _ rfl _
  · iterate 4 right
    left; exact key _ rfl _
  · iterate 3 right
    left; exact key _ rfl _
  · iterate 2 right
    left; exact key _ rfl _
  · right; left; exact key _ rfl _
  · left; exact key _ rfl _

theorem scw_apply (p : Fin 8) (m : Fin 32) (j : Fin 128) (hj : j.val < 96) :
    (inOf arg2 arg3 arg4 arg5 arg6 arg10 arg11 X2 X3 X4 X5 X6 X10 f11 k).scw p (ix2 m j)
      = arg3.view.read (Elt Ideal) X3 (ix3 p (trow k m) ⟨j.val, hj⟩) := by
  unfold inOf
  dsimp only
  refine (drop_scw _ m j).trans ?_
  have hidx : (Rect.unit (s := S8x32x128) (offS p) S1x32x128.size (offS_inb p)).emb (ix3 (0 : Fin 1) m j) = ix3 p m j :=
    unit_ix3 (n0 := 8) (n1 := 32) (n2 := 128) (m0 := 1) (m1 := 32) (m2 := 128) (offS p) (offS_inb p) 0 m j p m j rfl (Nat.zero_add _) (Nat.zero_add _)
  refine (congrArg (arg11.view.read (Elt Ideal) _) hidx).trans ?_
  refine (View.read_writes_apply_of_pieces arg11.view f11 (scwAt arg3 X3 k) _ (scw_pieces arg3 X3 k) (ix3 p m j) (scw_cover arg3 X3 k p m j hj)).trans ?_
  unfold scwAt
  rw [dif_pos (show ((ix3 p m j : S8x32x128.Idx) 2).val < 96 from hj)]
  rfl

end

end Cert.KernelIdeal.Val

end
-- ==== Proof.State.lean ====
/-
  Hand-written, untrusted. What the loop leaves: the three results' blocks after the eight trips, by induction on the trips.
-/
module

public import proofs.«01_k».proof.Proof.Reads

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

local instance (e : EltTy) : Nonempty (Elt Ideal e) := by cases e <;> exact ⟨0⟩

/-- Every store of a list agrees with `G`, and together they write every row below `b`. -/
structure Good {e : EltTy} (G : Vec Ideal S256x1536 e) (b : ℕ) (L : List (View.Piece (Elt Ideal) S256x1536 e)) : Prop where
  agree : ∀ p ∈ L, ∀ x, p.2 x = G (p.1.emb x)
  cover : ∀ (t : Fin 256) (d : Fin 1536), t.val < b → ∃ p ∈ L, (ix2 t d : S256x1536.Idx) ∈ p.1.set

theorem Good.nil {e : EltTy} (G : Vec Ideal S256x1536 e) : Good G 0 [] :=
  ⟨fun _ h => absurd h (List.not_mem_nil), fun _ _ h => absurd h (Nat.not_lt_zero _)⟩

/-- Stores of the next 32 rows put before a list of the earlier ones. -/
theorem Good.append {e : EltTy} {G : Vec Ideal S256x1536 e} {b : ℕ} {L L' : List (View.Piece (Elt Ideal) S256x1536 e)} (hL : Good G (32 * b) L)
    (ha : ∀ p ∈ L', ∀ x, p.2 x = G (p.1.emb x))
    (hc : ∀ (t : Fin 256) (d : Fin 1536), t.val / 32 = b → ∃ p ∈ L', (ix2 t d : S256x1536.Idx) ∈ p.1.set) : Good G (32 * (b + 1)) (L' ++ L) where
  agree p hp := (List.mem_append.1 hp).elim (ha p) (hL.agree p)
  cover t d ht := by
    by_cases h : t.val < 32 * b
    · obtain ⟨p, hp, hm⟩ := hL.cover t d h
      exact ⟨p, List.mem_append.2 (Or.inr hp), hm⟩
    · obtain ⟨p, hp, hm⟩ := hc t d (by omega)
      exact ⟨p, List.mem_append.2 (Or.inl hp), hm⟩

/-- Such a list covering all rows leaves `G`, whatever was there. -/
theorem Good.read {e : EltTy} {G : Vec Ideal S256x1536 e} {L : List (View.Piece (Elt Ideal) S256x1536 e)} (hL : Good G 256 L)
    (arg : Memref sig .tc .vmem S256x1536 e) (f : BufTy.Contents (Elt Ideal) arg.view.ty) :
    arg.view.read (Elt Ideal) (arg.view.writes (Elt Ideal) f L) = G := by
  funext y
  obtain ⟨t, d, rfl⟩ : ∃ (t : Fin 256) (d : Fin 1536), y = ix2 t d := ⟨y 0, y 1, (ix2_eta y).symm⟩
  exact View.read_writes_apply_of_pieces arg.view f G L hL.agree _ (hL.cover t d t.isLt)

/-- An element of a matrix lies in a unit-stride rectangle. -/
theorem mem_unit_ix2 {n0 n1 m0 m1 : ℕ} (off : Fin 2 → ℕ) (inb : ∀ a, off a + (![m0, m1] : Fin 2 → ℕ) a ≤ (⟨2, ![n0, n1]⟩ : Shape).size a)
    (a : Fin m0) (b : Fin m1) (a' : Fin n0) (b' : Fin n1) (h0 : off 0 + a.val = a'.val) (h1 : off 1 + b.val = b'.val) :
    (ix2 a' b' : (⟨2, ![n0, n1]⟩ : Shape).Idx) ∈ (Rect.unit (s := ⟨2, ![n0, n1]⟩) off ![m0, m1] inb).set := by
  rw [← Rect.map_emb_univ]
  exact Finset.mem_map.2 ⟨(ix2 a b : (⟨2, ![m0, m1]⟩ : Shape).Idx), Finset.mem_univ _, unit_ix2 off inb a b a' b' h0 h1⟩

theorem mem_order : ∀ (n : Fin 12) (h : Fin 2), (n, h) ∈ order := by decide

section
variable (𝒱 : Variants) (c : Dev nD) (bd : Option 𝒱.V) (i : grid0.Coords) (arg1 : Memref sig .tc .smem S8 .f32) (harg1 : arg1.IsWhole) (arg2 : Memref sig .tc .vmem S8x256x768 .i8) (harg2 : arg2.IsWhole) (arg3 : Memref sig .tc .vmem S8x256x96 .fp8e4m3) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S256x1536 .fp8e4m3) (harg8 : arg8.IsWhole) (arg9 : Memref sig .tc .vmem S1x1x256 .f32) (harg9 : arg9.IsWhole) (arg10 : Memref sig .tc .vmem S96x256 .bf16) (harg10 : arg10.IsWhole) (arg11 : Memref sig .tc .vmem S8x32x128 .f32) (harg11 : arg11.IsWhole) (arg12 : Memref sig .tc .vmem S32x1536 .f32) (harg12 : arg12.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty) (X10 : BufTy.Contents (Elt Ideal) arg10.view.ty)
  (x0 : Vec Ideal S8 .f32) (hl : ∀ m j, arg10.view.read (Elt Ideal) X10 (ix2 m j) = lhsAt (fun p => x0 (ix1 p)) m j)

section
variable (k : Fin k0_t1_loop.trips) (f11 : BufTy.Contents (Elt Ideal) arg11.view.ty)
include hl

/-- What a trip computes is the residual of its token rows. -/
theorem inOf_nr (n : Fin 12) (h : Fin 2) (r : Fin 16) (l : Fin 128) :
    (inOf arg2 arg3 arg4 arg5 arg6 arg10 arg11 X2 X3 X4 X5 X6 X10 f11 k).nr n h (ix2 r l)
      = KR x0 (arg2.view.read (Elt Ideal) X2) (arg3.view.read (Elt Ideal) X3) (arg4.view.read (Elt Ideal) X4) (arg5.view.read (Elt Ideal) X5) (trow k (mrow h r)) ⟨128 * n.val + l.val, by omega⟩ := by
  rw [nr_apply _ (fun p => x0 (ix1 p)) (fun m j => (lhs_apply arg2 arg3 arg4 arg5 arg6 arg10 arg11 X2 X3 X4 X5 X6 X10 f11 k m j).trans (hl m j)), bias_apply, x_apply]
  unfold KR
  refine congrArg (fun a => a + _ + _) (Finset.sum_congr rfl fun p _ => congrArg (x0 (ix1 p) * ·) ?_)
  rw [bytes_apply, scw_apply _ _ _ _ _ _ _ _ _ _ _ _ _ _ _ _ _ _ (show (128 * n.val + l.val) / 16 < 96 by omega)]
  have hn : n.val = 4 * (colOf n).val + 2 * (jOf n).val + (kOf n).val := by revert n; decide
  have e1 : (⟨256 * (colOf n).val + (128 * (jOf n).val + 64 * (kOf n).val + l.val / 2), by omega⟩ : Fin 768) = ⟨(128 * n.val + l.val) / 2, by omega⟩ :=
    Fin.ext (by change 256 * (colOf n).val + (128 * (jOf n).val + 64 * (kOf n).val + l.val / 2) = (128 * n.val + l.val) / 2; omega)
  have e2 : (⟨l.val % 2, by omega⟩ : Fin 2) = ⟨(128 * n.val + l.val) % 2, by omega⟩ :=
    Fin.ext (by change l.val % 2 = (128 * n.val + l.val) % 2; omega)
  rw [e1, e2]

theorem inOf_R (h : Fin 2) (r : Fin 16) : (inOf arg2 arg3 arg4 arg5 arg6 arg10 arg11 X2 X3 X4 X5 X6 X10 f11 k).R h r = KR x0 (arg2.view.read (Elt Ideal) X2) (arg3.view.read (Elt Ideal) X3) (arg4.view.read (Elt Ideal) X4) (arg5.view.read (Elt Ideal) X5) (trow k (mrow h r)) := by
  funext d
  refine (inOf_nr arg2 arg3 arg4 arg5 arg6 arg10 arg11 X2 X3 X4 X5 X6 X10 x0 hl k f11 _ h r _).trans (congrArg _ (Fin.ext ?_))
  change 128 * (d.val / 128) + d.val % 128 = d.val
  omega

omit hl in
theorem inOf_g : (inOf arg2 arg3 arg4 arg5 arg6 arg10 arg11 X2 X3 X4 X5 X6 X10 f11 k).g = KG (arg6.view.read (Elt Ideal) X6) := by
  funext d
  refine (gain_apply arg2 arg3 arg4 arg5 arg6 arg10 arg11 X2 X3 X4 X5 X6 X10 f11 k _ _).trans ?_
  unfold KG
  refine congrArg (fun q => arg6.view.read (Elt Ideal) X6 (ix2 0 q)) (Fin.ext ?_)
  change 128 * (d.val / 128) + d.val % 128 = d.val
  omega

theorem nrPieces_agree : ∀ p ∈ (inOf arg2 arg3 arg4 arg5 arg6 arg10 arg11 X2 X3 X4 X5 X6 X10 f11 k).nrPieces k, ∀ x, p.2 x = out6 x0 (arg2.view.read (Elt Ideal) X2) (arg3.view.read (Elt Ideal) X3) (arg4.view.read (Elt Ideal) X4) (arg5.view.read (Elt Ideal) X5) (p.1.emb x) := by
  intro p hp x
  unfold In.nrPieces at hp
  obtain ⟨⟨n, h⟩, -, rfl⟩ := List.mem_map.1 hp
  obtain ⟨r, l, rfl⟩ : ∃ (r : Fin 16) (l : Fin 128), x = ix2 r l := ⟨x 0, x 1, (ix2_eta x).symm⟩
  have e : (rectX k n h).emb (ix2 r l) = ix2 (trow k (mrow h r)) ⟨128 * n.val + l.val, by omega⟩ :=
    unit_ix2 (n0 := 256) (n1 := 1536) (m0 := 16) (m1 := 128) (offX k n h) (offX_inb k n h) r l _ _
      ((congrArg (· + r.val) (congrFun (offX_eq k n h) 0)).trans (Nat.add_assoc _ _ _)) (congrArg (· + l.val) (congrFun (offX_eq k n h) 1))
  change (inOf arg2 arg3 arg4 arg5 arg6 arg10 arg11 X2 X3 X4 X5 X6 X10 f11 k).nr n h (ix2 r l) = out6 x0 (arg2.view.read (Elt Ideal) X2) (arg3.view.read (Elt Ideal) X3) (arg4.view.read (Elt Ideal) X4) (arg5.view.read (Elt Ideal) X5) ((rectX k n h).emb (ix2 r l))
  rw [e]
  exact inOf_nr arg2 arg3 arg4 arg5 arg6 arg10 arg11 X2 X3 X4 X5 X6 X10 x0 hl k f11 n h r l

omit hl in
theorem nrPieces_cover (I : In Ideal) (t : Fin 256) (d : Fin 1536) (ht : t.val / 32 = k.val) : ∃ p ∈ I.nrPieces k, (ix2 t d : S256x1536.Idx) ∈ p.1.set := by
  unfold In.nrPieces
  refine ⟨_, List.mem_map.2 ⟨(⟨d.val / 128, by omega⟩, ⟨t.val % 32 / 16, by omega⟩), mem_order _ _, rfl⟩, ?_⟩
  exact mem_unit_ix2 (n0 := 256) (n1 := 1536) (m0 := 16) (m1 := 128) (offX k ⟨d.val / 128, by omega⟩ ⟨t.val % 32 / 16, by omega⟩) (offX_inb k _ _) ⟨t.val % 16, by omega⟩ ⟨d.val % 128, by omega⟩ t d
    ((congrArg (· + t.val % 16) (congrFun (offX_eq k _ _) 0)).trans (by change 32 * k.val + 16 * (t.val % 32 / 16) + t.val % 16 = t.val; omega))
    ((congrArg (· + d.val % 128) (congrFun (offX_eq k _ _) 1)).trans (by change 128 * (d.val / 128) + d.val % 128 = d.val; omega))

omit hl in
/-- The scratch of products, read back after the trip's stores. -/
theorem rg_read (I : In Ideal) (h : Fin 2) (r : Fin 16) (d : Fin 1536) :
    arg12.view.readCov I.rgPieces (Rect.unit (s := S32x1536) ![0, 0] S32x1536.size inb_S32x1536_S32x1536_0_0).toLoadRect (ix2 (mrow h r) d) = I.R h r d * I.g d := by
  have e : (Rect.unit (s := S32x1536) ![0, 0] S32x1536.size inb_S32x1536_S32x1536_0_0).emb (ix2 (mrow h r) d) = ix2 (mrow h r) d :=
    unit_ix2 (n0 := 32) (n1 := 1536) (m0 := 32) (m1 := 1536) ![0, 0] inb_S32x1536_S32x1536_0_0 (mrow h r) d (mrow h r) d (Nat.zero_add _) (Nat.zero_add _)
  refine (congrArg (arg12.view.read (Elt Ideal) (arg12.view.writes (Elt Ideal) arg12.view.junk I.rgPieces)) e).trans ?_
  refine (View.read_writes_apply_of_pieces arg12.view _ (fun y => I.R ⟨(y 0).val / 16, by have : (y 0).val < 32 := (y 0).isLt; omega⟩ ⟨(y 0).val % 16, by omega⟩ (y 1) * I.g (y 1)) I.rgPieces ?_ (ix2 (mrow h r) d) ?_).trans ?_
  · intro p hp x
    unfold In.rgPieces at hp
    obtain ⟨⟨n, h⟩, -, rfl⟩ := List.mem_map.1 hp
    obtain ⟨r, l, rfl⟩ : ∃ (r : Fin 16) (l : Fin 128), x = ix2 r l := ⟨x 0, x 1, (ix2_eta x).symm⟩
    have e : (Rect.unit (s := S32x1536) (offG n h) S16x128.size (offG_inb n h)).emb (ix2 r l) = ix2 (mrow h r) ⟨128 * n.val + l.val, by omega⟩ :=
      unit_ix2 (n0 := 32) (n1 := 1536) (m0 := 16) (m1 := 128) (offG n h) (offG_inb n h) r l _ _ rfl rfl
    have e1 : (shapeCast S16x128 (I.rg n h) shapeCasts_S16x128_S16x128) (ix2 r l) = I.rg n h (ix2 r l) := by
      generalize I.rg n h = z
      pointwise
    refine e1.trans ((In.rg_apply I n h r l).trans ?_)
    have e2 : (⟨(16 * h.val + r.val) / 16, by omega⟩ : Fin 2) = h := Fin.ext (by change (16 * h.val + r.val) / 16 = h.val; omega)
    have e3 : (⟨(16 * h.val + r.val) % 16, by omega⟩ : Fin 16) = r := Fin.ext (by change (16 * h.val + r.val) % 16 = r.val; omega)
    have e4 : (⟨(128 * n.val + l.val) / 128, by omega⟩ : Fin 12) = n := Fin.ext (by change (128 * n.val + l.val) / 128 = n.val; omega)
    have e5 : (⟨(128 * n.val + l.val) % 128, by omega⟩ : Fin 128) = l := Fin.ext (by change (128 * n.val + l.val) % 128 = l.val; omega)
    refine Eq.trans ?_ (congrArg (fun y : S32x1536.Idx => I.R ⟨(y 0).val / 16, by have : (y 0).val < 32 := (y 0).isLt; omega⟩ ⟨(y 0).val % 16, by omega⟩ (y 1) * I.g (y 1)) e).symm
    change _ = I.R ⟨(16 * h.val + r.val) / 16, _⟩ ⟨(16 * h.val + r.val) % 16, _⟩ ⟨128 * n.val + l.val, _⟩ * I.g ⟨128 * n.val + l.val, _⟩
    rw [e2, e3]
    unfold In.R In.g
    dsimp only
    rw [e4, e5]
  · unfold In.rgPieces
    refine ⟨_, List.mem_map.2 ⟨(⟨d.val / 128, by omega⟩, h), mem_order _ _, rfl⟩, ?_⟩
    exact mem_unit_ix2 (n0 := 32) (n1 := 1536) (m0 := 16) (m1 := 128) (offG ⟨d.val / 128, by omega⟩ h) (offG_inb _ h) r ⟨d.val % 128, by omega⟩ (mrow h r) d rfl
      (by change 128 * (d.val / 128) + d.val % 128 = d.val; omega)
  · have e2 : (⟨(16 * h.val + r.val) / 16, by omega⟩ : Fin 2) = h := Fin.ext (by change (16 * h.val + r.val) / 16 = h.val; omega)
    have e3 : (⟨(16 * h.val + r.val) % 16, by omega⟩ : Fin 16) = r := Fin.ext (by change (16 * h.val + r.val) % 16 = r.val; omega)
    change I.R ⟨(16 * h.val + r.val) / 16, _⟩ ⟨(16 * h.val + r.val) % 16, _⟩ d * I.g d = _
    rw [e2, e3]

omit hl in
theorem mrow_split (m : Fin 32) : ∃ (h : Fin 2) (r : Fin 16), m = mrow h r :=
  ⟨⟨m.val / 16, by omega⟩, ⟨m.val % 16, by omega⟩, Fin.ext (by change m.val = 16 * (m.val / 16) + m.val % 16; omega)⟩

/-- The codes a trip stores are those of its token rows. -/
theorem codes_agree (y : S32x1536.Idx) :
    (inOf arg2 arg3 arg4 arg5 arg6 arg10 arg11 X2 X3 X4 X5 X6 X10 f11 k).codes (arg12.view.readCov (inOf arg2 arg3 arg4 arg5 arg6 arg10 arg11 X2 X3 X4 X5 X6 X10 f11 k).rgPieces (Rect.unit (s := S32x1536) ![0, 0] S32x1536.size inb_S32x1536_S32x1536_0_0).toLoadRect) y
      = out7 x0 (arg2.view.read (Elt Ideal) X2) (arg3.view.read (Elt Ideal) X3) (arg4.view.read (Elt Ideal) X4) (arg5.view.read (Elt Ideal) X5) (arg6.view.read (Elt Ideal) X6) ((Rect.unit (s := S256x1536) (k0_off45 k) S32x1536.size (k0_off45_inb k)).emb y) := by
  obtain ⟨m, d, rfl⟩ : ∃ (m : Fin 32) (d : Fin 1536), y = ix2 m d := ⟨y 0, y 1, (ix2_eta y).symm⟩
  obtain ⟨h, r, rfl⟩ := mrow_split m
  have e : (Rect.unit (s := S256x1536) (k0_off45 k) S32x1536.size (k0_off45_inb k)).emb (ix2 (mrow h r) d) = ix2 (trow k (mrow h r)) d :=
    unit_ix2 (n0 := 256) (n1 := 1536) (m0 := 32) (m1 := 1536) (k0_off45 k) (k0_off45_inb k) (mrow h r) d _ _
      (congrArg (· + (mrow h r).val) (congrFun (off45_eq k) 0)) ((congrArg (· + d.val) (congrFun (off45_eq k) 1)).trans (Nat.zero_add _))
  rw [e, In.codes_apply _ _ h r d (rg_read arg12 _ h r d), inOf_R arg2 arg3 arg4 arg5 arg6 arg10 arg11 X2 X3 X4 X5 X6 X10 x0 hl, inOf_g]
  rfl

omit hl in
theorem codes_cover (t : Fin 256) (d : Fin 1536) (ht : t.val / 32 = k.val) :
    (ix2 t d : S256x1536.Idx) ∈ (Rect.unit (s := S256x1536) (k0_off45 k) S32x1536.size (k0_off45_inb k)).set :=
  mem_unit_ix2 (n0 := 256) (n1 := 1536) (m0 := 32) (m1 := 1536) (k0_off45 k) (k0_off45_inb k) ⟨t.val % 32, by omega⟩ d t d
    ((congrArg (· + t.val % 32) (congrFun (off45_eq k) 0)).trans (by change 32 * k.val + t.val % 32 = t.val; omega))
    ((congrArg (· + d.val) (congrFun (off45_eq k) 1)).trans (Nat.zero_add _))

/-- The row of scales after a trip. -/
theorem acc_step (a : FVec Ideal S1x256 .f32) (l : Fin 256) : (inOf arg2 arg3 arg4 arg5 arg6 arg10 arg11 X2 X3 X4 X5 X6 X10 f11 k).acc k a (ix2 0 l)
    = a (ix2 0 l) + if l.val / 32 = k.val then out8 x0 (arg2.view.read (Elt Ideal) X2) (arg3.view.read (Elt Ideal) X3) (arg4.view.read (Elt Ideal) X4) (arg5.view.read (Elt Ideal) X5) (arg6.view.read (Elt Ideal) X6) (ix3 0 0 l) else 0 := by
  rw [acc_apply]
  by_cases h : l.val / 32 = k.val
  · rw [dif_pos h, if_pos h]
    obtain ⟨h', r, hm⟩ := mrow_split ⟨l.val % 32, by omega⟩
    rw [hm, In.scale_apply, inOf_R arg2 arg3 arg4 arg5 arg6 arg10 arg11 X2 X3 X4 X5 X6 X10 x0 hl, inOf_g, ← hm]
    have e : trow k ⟨l.val % 32, by omega⟩ = l := Fin.ext (by change 32 * k.val + l.val % 32 = l.val; omega)
    rw [e]
    rfl
  · rw [dif_neg h, if_neg h]

end

variable (G7 : BufTy.Contents (Elt Ideal) arg7.view.ty) (G8 : BufTy.Contents (Elt Ideal) arg8.view.ty)
  (G11 : BufTy.Contents (Elt Ideal) arg11.view.ty) (G12 : BufTy.Contents (Elt Ideal) arg12.view.ty)

/-- What the loop has yielded and stored before trip `n`. -/
abbrev stAt (n : ℕ) := st_k0_t1 (F := Ideal) 𝒱 c bd i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) X2 X3 X4 X5 X6 X10 G7 G8 G11 G12 k0_pay6 n

include hl

/-- Before trip `n`: rows below `32 n` of the new residual and of the codes are stored, and so many scales are in place, the others zero. -/
theorem st_good (n : ℕ) (hn : n ≤ 8) :
    Good (out6 x0 (arg2.view.read (Elt Ideal) X2) (arg3.view.read (Elt Ideal) X3) (arg4.view.read (Elt Ideal) X4) (arg5.view.read (Elt Ideal) X5)) (32 * n) (stAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 G7 G8 G11 G12 n).2.1
    ∧ Good (out7 x0 (arg2.view.read (Elt Ideal) X2) (arg3.view.read (Elt Ideal) X3) (arg4.view.read (Elt Ideal) X4) (arg5.view.read (Elt Ideal) X5) (arg6.view.read (Elt Ideal) X6)) (32 * n) (stAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 G7 G8 G11 G12 n).2.2.1
    ∧ ∀ l : Fin 256, (stAt 𝒱 c bd i arg1 harg1 arg2 harg2 arg3 harg3 arg4 harg4 arg5 harg5 arg6 harg6 arg7 harg7 arg8 harg8 arg9 harg9 arg10 harg10 arg11 harg11 arg12 harg12 X2 X3 X4 X5 X6 X10 G7 G8 G11 G12 n).1 (ix2 0 l)
        = if l.val / 32 < n then out8 x0 (arg2.view.read (Elt Ideal) X2) (arg3.view.read (Elt Ideal) X3) (arg4.view.read (Elt Ideal) X4) (arg5.view.read (Elt Ideal) X5) (arg6.view.read (Elt Ideal) X6) (ix3 0 0 l) else 0 := by
  induction n with
  | zero =>
    refine ⟨Good.nil _, Good.nil _, fun l => ?_⟩
    rw [if_neg (Nat.not_lt_zero _)]
    exact Ideal.ofBits_zero_f32
  | succ n ih =>
    obtain ⟨h7, h8, ha⟩ := ih (by omega)
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) X2 X3 X4 X5 X6 X10 G7 G8 G11 G12 k0_pay6 (⟨n, hn⟩ : Fin k0_t1_loop.trips)
    refine ⟨?_, ?_, fun l => ?_⟩
    · have e := (congrArg (fun q => q.2.1) hs).trans (congrArg (· ++ _) (trip_nr (F := Ideal) 𝒱 c bd i arg1 harg1 arg2 harg2 arg3 harg3 arg4 harg4 arg5 harg5 arg6 harg6 arg7 harg7 arg8 harg8 arg9 harg9 arg10 harg10 arg11 harg11 arg12 harg12 X2 X3 X4 X5 X6 X10 ⟨n, hn⟩ _ _ _ _ _))
      refine Eq.mpr (congrArg (Good _ _) e) (h7.append ?_ ?_)
      · exact nrPieces_agree arg2 arg3 arg4 arg5 arg6 arg10 arg11 X2 X3 X4 X5 X6 X10 x0 hl ⟨n, hn⟩ _
      · exact nrPieces_cover ⟨n, hn⟩ _
    · have e := (congrArg (fun q => q.2.2.1) hs).trans (congrArg (· ++ _) (trip_codes (F := Ideal) 𝒱 c bd i arg1 harg1 arg2 harg2 arg3 harg3 arg4 harg4 arg5 harg5 arg6 harg6 arg7 harg7 arg8 harg8 arg9 harg9 arg10 harg10 arg11 harg11 arg12 harg12 X2 X3 X4 X5 X6 X10 ⟨n, hn⟩ _ _ _ _ _))
      refine Eq.mpr (congrArg (Good _ _) e) (h8.append ?_ ?_)
      · intro p hp
        obtain rfl := List.mem_singleton.1 hp
        exact codes_agree arg2 arg3 arg4 arg5 arg6 arg10 arg11 arg12 X2 X3 X4 X5 X6 X10 x0 hl ⟨n, hn⟩ _
      · intro t d ht
        exact ⟨_, List.mem_singleton.2 rfl, codes_cover ⟨n, hn⟩ t d ht⟩
    · have e := (congrArg (fun q => q.1) hs).trans (trip_acc (F := Ideal) 𝒱 c bd i arg1 harg1 arg2 harg2 arg3 harg3 arg4 harg4 arg5 harg5 arg6 harg6 arg7 harg7 arg8 harg8 arg9 harg9 arg10 harg10 arg11 harg11 arg12 harg12 X2 X3 X4 X5 X6 X10 ⟨n, hn⟩ _ _ _ _ _)
      refine (congrFun e (ix2 0 l)).trans ((acc_step arg2 arg3 arg4 arg5 arg6 arg10 arg11 X2 X3 X4 X5 X6 X10 x0 hl ⟨n, hn⟩ _ _ l).trans ?_)
      refine (congrArg (· + _) (ha l)).trans ?_
      by_cases h1 : l.val / 32 < n
      · rw [if_pos h1, if_neg (show ¬ l.val / 32 = n by omega), if_pos (show l.val / 32 < n + 1 by omega), add_zero]
      · rw [if_neg h1, zero_add]
        by_cases h2 : l.val / 32 = n
        · rw [if_pos (show l.val / 32 = n from h2), if_pos (show l.val / 32 < n + 1 by omega)]
        · rw [if_neg (show ¬ l.val / 32 = n from h2), if_neg (show ¬ l.val / 32 < n + 1 by omega)]

end

/-- A row stored as a block of three axes. -/
theorem pay8_apply (a : FVec Ideal S1x256 .f32) (u v : Fin 1) (l : Fin 256) : k0_pay8 a (ix3 u v l) = a (ix2 0 l) := by
  unfold k0_pay8
  pointwise

end Cert.KernelIdeal.Val

end
-- ==== Proof.KernelVal.lean ====
/-
  Hand-written, untrusted. The run of the kernel's body, with what it leaves in its outputs.
-/
module

public import proofs.«01_k».proof.Proof.KernelIdealFrame
public import proofs.«01_k».proof.Proof.Lhs
public import proofs.«01_k».proof.Proof.State

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

instance (e : EltTy) : Nonempty (Elt Ideal e) := by cases e <;> exact ⟨0⟩

local notation "𝕄" => MT nD τ sig Unit (Elt Ideal) ℕ (UR sig nD τ) ℕ

/-- A load of one shard scale reads it. -/
theorem ss_read (arg1 : Memref sig .tc .smem S8 .f32) (f0 : BufTy.Contents (Elt Ideal) arg1.view.ty) (off : Fin 1 → ℕ) (inb : ∀ a, off a + S1.size a ≤ S8.size a)
    (h : 0 < (Rect.unit (s := S8) off S1.size inb).toLoadRect.shape.numel) (p : Fin 8) (hp : off 0 = p.val) :
    arg1.view.readAt (Elt Ideal) (Rect.unit (s := S8) off S1.size inb).toLoadRect f0 (Shape.Idx.first h) = arg1.view.read (Elt Ideal) f0 (ix1 p) := by
  refine congrArg (arg1.view.read (Elt Ideal) f0) (funext fun a => Fin.ext ?_)
  match a with
  | ⟨0, _⟩ => show off 0 + 1 * 0 = p.val; omega

/-- What the first point stores, read back: the constant matrix of the shard scales. -/
theorem lhs_store (arg1 : Memref sig .tc .smem S8 .f32) (f0 : BufTy.Contents (Elt Ideal) arg1.view.ty) (f : BufTy.Contents (Elt Ideal) scM0.view.ty)
    (hss : ∀ p, max (arg1.view.read (Elt Ideal) f0 (ix1 p)) (-(arg1.view.read (Elt Ideal) f0 (ix1 p))) ≤ Ideal.ofBits .f32 0x7F7FFFFF#32)
    (s0 s1 s2 s3 s4 s5 s6 s7 : EReal) (h0 : s0 = arg1.view.read (Elt Ideal) f0 (ix1 0)) (h1 : s1 = arg1.view.read (Elt Ideal) f0 (ix1 1))
    (h2 : s2 = arg1.view.read (Elt Ideal) f0 (ix1 2)) (h3 : s3 = arg1.view.read (Elt Ideal) f0 (ix1 3)) (h4 : s4 = arg1.view.read (Elt Ideal) f0 (ix1 4))
    (h5 : s5 = arg1.view.read (Elt Ideal) f0 (ix1 5)) (h6 : s6 = arg1.view.read (Elt Ideal) f0 (ix1 6)) (h7 : s7 = arg1.view.read (Elt Ideal) f0 (ix1 7)) :
    scM0.view.read (Elt Ideal) (scM0.view.writes (Elt Ideal) f [⟨Rect.unit (s := S96x256) ![0, 0] S96x256.size inb_S96x256_S96x256_0_0,
        k0_pay1 (F := Ideal) (k0_pay18 (F := Ideal) maskP partP k0_pay16 maskP0 s0 s1 s2 s3 s4 s5 s6 s7)
          (k0_pay19 (F := Ideal) maskP partP k0_pay16 maskP0 s0 s1 s2 s3 s4 s5 s6 s7)⟩])
      = lhsMat (arg1.view.read (Elt Ideal) f0) := by
  subst h0 h1 h2 h3 h4 h5 h6 h7
  rw [View.read_writes_eq_canon _ _ _ fun y => ⟨_, List.mem_singleton.2 rfl, View.mem_set_unit_zero (funext fun a => by fin_cases a <;> rfl) inb_S96x256_S96x256_0_0 y⟩,
    View.canon_unit_zero (funext fun a => by fin_cases a <;> rfl)]
  exact pay1_apply _ hss

section
variable (c : Dev nD) (i : grid0.Coords) (arg1 : Memref sig .tc .smem S8 .f32) (harg1 : arg1.IsWhole) (arg2 : Memref sig .tc .vmem S8x256x768 .i8) (harg2 : arg2.IsWhole) (arg3 : Memref sig .tc .vmem S8x256x96 .fp8e4m3) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S256x1536 .fp8e4m3) (harg8 : arg8.IsWhole) (arg9 : Memref sig .tc .vmem S1x1x256 .f32) (harg9 : arg9.IsWhole)
  (x0 : Vec Ideal S8 .f32) (f1 : BufTy.Contents (Elt Ideal) arg2.view.ty) (f2 : BufTy.Contents (Elt Ideal) arg3.view.ty) (f3 : BufTy.Contents (Elt Ideal) arg4.view.ty) (f4 : BufTy.Contents (Elt Ideal) arg5.view.ty) (f5 : BufTy.Contents (Elt Ideal) arg6.view.ty)
  (f6 : BufTy.Contents (Elt Ideal) arg7.view.ty) (f7 : BufTy.Contents (Elt Ideal) arg8.view.ty) (f8 : BufTy.Contents (Elt Ideal) arg9.view.ty)
  (f9 : BufTy.Contents (Elt Ideal) scM0.view.ty) (f10 : BufTy.Contents (Elt Ideal) scM1.view.ty) (f11 : BufTy.Contents (Elt Ideal) scM2.view.ty)
  (hl : scM0.view.read (Elt Ideal) f9 = lhsMat x0)

/-- What the loop has yielded and stored at its end. -/
abbrev fin8 := st_k0_t1 (F := Ideal) Variants.none c none i arg1 harg1 arg2 harg2 arg3 harg3 arg4 harg4 arg5 harg5 arg6 harg6 arg7 harg7 arg8 harg8 arg9 harg9 scM0 (Memref.isWhole_whole _) scM1 (Memref.isWhole_whole _) scM2 (Memref.isWhole_whole _) (iota .tc S32x128 32 [1] iota_S32x128_d1_w32) f1 f2 f3 f4 f5 f9 f6 f7 f10 f11 k0_pay6 (Scf.trips k0_t1_loop.lb k0_t1_loop.ub k0_t1_loop.st)

include hl

theorem fin_good :
    Good (out6 x0 (arg2.view.read (Elt Ideal) f1) (arg3.view.read (Elt Ideal) f2) (arg4.view.read (Elt Ideal) f3) (arg5.view.read (Elt Ideal) f4)) 256
        (fin8 c i arg1 harg1 arg2 harg2 arg3 harg3 arg4 harg4 arg5 harg5 arg6 harg6 arg7 harg7 arg8 harg8 arg9 harg9 f1 f2 f3 f4 f5 f6 f7 f9 f10 f11).2.1
    ∧ Good (out7 x0 (arg2.view.read (Elt Ideal) f1) (arg3.view.read (Elt Ideal) f2) (arg4.view.read (Elt Ideal) f3) (arg5.view.read (Elt Ideal) f4) (arg6.view.read (Elt Ideal) f5)) 256
        (fin8 c i arg1 harg1 arg2 harg2 arg3 harg3 arg4 harg4 arg5 harg5 arg6 harg6 arg7 harg7 arg8 harg8 arg9 harg9 f1 f2 f3 f4 f5 f6 f7 f9 f10 f11).2.2.1
    ∧ ∀ l : Fin 256, (fin8 c i arg1 harg1 arg2 harg2 arg3 harg3 arg4 harg4 arg5 harg5 arg6 harg6 arg7 harg7 arg8 harg8 arg9 harg9 f1 f2 f3 f4 f5 f6 f7 f9 f10 f11).1 (ix2 0 l)
        = out8 x0 (arg2.view.read (Elt Ideal) f1) (arg3.view.read (Elt Ideal) f2) (arg4.view.read (Elt Ideal) f3) (arg5.view.read (Elt Ideal) f4) (arg6.view.read (Elt Ideal) f5) (ix3 0 0 l) := by
  have ht : Scf.trips k0_t1_loop.lb k0_t1_loop.ub k0_t1_loop.st = 8 := by decide +kernel
  unfold fin8
  rw [ht]
  have h := st_good Variants.none c none i arg1 harg1 arg2 harg2 arg3 harg3 arg4 harg4 arg5 harg5 arg6 harg6 arg7 harg7 arg8 harg8 arg9 harg9 scM0 (Memref.isWhole_whole _) scM1 (Memref.isWhole_whole _) scM2 (Memref.isWhole_whole _) f1 f2 f3 f4 f5 f9 x0
    (fun M j => (congrFun hl (ix2 M j) : _)) f6 f7 f10 f11 8 le_rfl
  exact ⟨h.1, h.2.1, fun l => (h.2.2 l).trans (if_pos (by omega))⟩

/-- The row of scales, read back. -/
theorem out8_store : arg9.view.read (Elt Ideal) (arg9.view.writes (Elt Ideal) f8 [⟨Rect.unit (s := S1x1x256) ![0, 0, 0] S1x1x256.size inb_S1x1x256_S1x1x256_0_0_0,
        k0_pay8 (F := Ideal) (fin8 c i arg1 harg1 arg2 harg2 arg3 harg3 arg4 harg4 arg5 harg5 arg6 harg6 arg7 harg7 arg8 harg8 arg9 harg9 f1 f2 f3 f4 f5 f6 f7 f9 f10 f11).1⟩])
      = out8 x0 (arg2.view.read (Elt Ideal) f1) (arg3.view.read (Elt Ideal) f2) (arg4.view.read (Elt Ideal) f3) (arg5.view.read (Elt Ideal) f4) (arg6.view.read (Elt Ideal) f5) := by
  have h := (fin_good c i arg1 harg1 arg2 harg2 arg3 harg3 arg4 harg4 arg5 harg5 arg6 harg6 arg7 harg7 arg8 harg8 arg9 harg9 x0 f1 f2 f3 f4 f5 f6 f7 f9 f10 f11 hl).2.2
  generalize (fin8 c i arg1 harg1 arg2 harg2 arg3 harg3 arg4 harg4 arg5 harg5 arg6 harg6 arg7 harg7 arg8 harg8 arg9 harg9 f1 f2 f3 f4 f5 f6 f7 f9 f10 f11).1 = a at h ⊢
  rw [View.read_writes_eq_canon _ _ _ fun y => ⟨_, List.mem_singleton.2 rfl, View.mem_set_unit_zero (funext fun a => by fin_cases a <;> rfl) inb_S1x1x256_S1x1x256_0_0_0 y⟩,
    View.canon_unit_zero (funext fun a => by fin_cases a <;> rfl)]
  funext y
  obtain ⟨u, v, l, rfl⟩ : ∃ (u v : Fin 1) (l : Fin 256), y = ix3 u v l := ⟨y 0, y 1, y 2, (ix3_eta y).symm⟩
  exact (pay8_apply a u v l).trans (h l)

end

theorem sound_kernel (c : Dev nD) (E : Set ℕ) (i : grid0.Coords) (arg1 : Memref sig .tc .smem S8 .f32) (harg1 : arg1.IsWhole) (arg2 : Memref sig .tc .vmem S8x256x768 .i8) (harg2 : arg2.IsWhole) (arg3 : Memref sig .tc .vmem S8x256x96 .fp8e4m3) (harg3 : arg3.IsWhole) (arg4 : Memref sig .tc .vmem S1x1536 .f32) (harg4 : arg4.IsWhole) (arg5 : Memref sig .tc .vmem S256x1536 .bf16) (harg5 : arg5.IsWhole) (arg6 : Memref sig .tc .vmem S1x1536 .f32) (harg6 : arg6.IsWhole) (arg7 : Memref sig .tc .vmem S256x1536 .bf16) (harg7 : arg7.IsWhole) (arg8 : Memref sig .tc .vmem S256x1536 .fp8e4m3) (harg8 : arg8.IsWhole) (arg9 : Memref sig .tc .vmem S1x1x256 .f32) (harg9 : arg9.IsWhole)
    (x0 : Vec Ideal S8 .f32) (x1 : Vec Ideal S8x256x768 .i8) (x2 : Vec Ideal S8x256x96 .fp8e4m3) (x3 : Vec Ideal S1x1536 .f32) (x4 : Vec Ideal S256x1536 .bf16) (x5 : Vec Ideal S1x1536 .f32) (hss : ∀ p, max (x0 (ix1 p)) (-(x0 (ix1 p))) ≤ Ideal.ofBits .f32 0x7F7FFFFF#32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) scM0 fullShare d ∗ ⌜first i ∨ d = lhsMat x0⌝) ∗ (∃ d, owns (c : Thread nD τ) scM1 fullShare d) ∗ (∃ d, owns (c : Thread nD τ) scM2 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 x0 x1 x2 x3 x4) ∗ owns (c : Thread nD τ) arg8 fullShare (out7 x0 x1 x2 x3 x4 x5) ∗ owns (c : Thread nD τ) arg9 fullShare (out8 x0 x1 x2 x3 x4 x5) ∗ owns (c : Thread nD τ) scM0 fullShare (lhsMat x0) ∗ (∃ d, owns (c : Thread nD τ) scM1 fullShare d) ∗ (∃ d, owns (c : Thread nD τ) scM2 fullShare d)) -∗ K ⟨⟩))
      ⊢ wp frame (wpE (defs₀ (F := Ideal)) Variants.none c none) E (cc0_nvfp4_sum_rmsnorm i arg1 harg1 arg2 harg2 arg3 harg3 arg4 harg4 arg5 harg5 arg6 harg6 arg7 harg7 arg8 harg8 arg9 harg9 scM0 (Memref.isWhole_whole _) scM1 (Memref.isWhole_whole _) scM2 (Memref.isWhole_whole _)) K := by
  simp only [cc0_nvfp4_sum_rmsnorm_eq_skeleton]; unfold cc0_nvfp4_sum_rmsnorm_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, ⟨%f9, %hf9, H9⟩, %h9⟩, ⟨%d10, %f10, -, H10⟩, ⟨%d11, %f11, -, H11⟩, Hk⟩
  subst hf0 hf1 hf2 hf3 hf4 hf5
  by_cases hi : first i
  · have hi' := hi
    simp only [first] at hi
    sl_exec
    have HL : ∀ f, scM0.view.read (Elt Ideal) (scM0.view.writes (Elt Ideal) f (sound_kernel.sl.H9_1 c arg1 f0)) = lhsMat (arg1.view.read (Elt Ideal) f0) := fun f =>
      lhs_store arg1 f0 f hss _ _ _ _ _ _ _ _ (ss_read arg1 f0 _ _ _ 0 rfl) (ss_read arg1 f0 _ _ _ 1 rfl) (ss_read arg1 f0 _ _ _ 2 rfl) (ss_read arg1 f0 _ _ _ 3 rfl)
        (ss_read arg1 f0 _ _ _ 4 rfl) (ss_read arg1 f0 _ _ _ 5 rfl) (ss_read arg1 f0 _ _ _ 6 rfl) (ss_read arg1 f0 _ _ _ 7 rfl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (fin_good c i arg1 harg1 arg2 harg2 arg3 harg3 arg4 harg4 arg5 harg5 arg6 harg6 arg7 harg7 arg8 harg8 arg9 harg9 _ f1 f2 f3 f4 f5 f6 f7 _ _ f11 (HL _)).1.read arg7 f6
    isplitl [H7]
    · iexists _; isplitr; swap; · iexact H7
      ipureintro
      exact (fin_good c i arg1 harg1 arg2 harg2 arg3 harg3 arg4 harg4 arg5 harg5 arg6 harg6 arg7 harg7 arg8 harg8 arg9 harg9 _ f1 f2 f3 f4 f5 f6 f7 _ _ f11 (HL _)).2.1.read arg8 f7
    isplitl [H8]
    · iexists _; isplitr; swap; · iexact H8
      ipureintro
      exact out8_store c i arg1 harg1 arg2 harg2 arg3 harg3 arg4 harg4 arg5 harg5 arg6 harg6 arg7 harg7 arg8 harg8 arg9 harg9 _ f1 f2 f3 f4 f5 f6 f7 f8 _ _ f11 (HL _)
    isplitl [H9]
    · iexists _; isplitr; swap; · iexact H9
      ipureintro
      exact (HL _)
    isplitl [H10]
    · iexists _, _; isplitr; swap; · iexact H10
      ipureintro; rfl
    iexists _, _; isplitr; swap; · iexact H11
    ipureintro; rfl
  · have HL : scM0.view.read (Elt Ideal) f9 = lhsMat (arg1.view.read (Elt Ideal) f0) := hf9.trans (h9.resolve_left hi)
    simp only [first] at hi
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (fin_good c i arg1 harg1 arg2 harg2 arg3 harg3 arg4 harg4 arg5 harg5 arg6 harg6 arg7 harg7 arg8 harg8 arg9 harg9 _ f1 f2 f3 f4 f5 f6 f7 _ _ f11 HL).1.read arg7 f6
    isplitl [H7]
    · iexists _; isplitr; swap; · iexact H7
      ipureintro
      exact (fin_good c i arg1 harg1 arg2 harg2 arg3 harg3 arg4 harg4 arg5 harg5 arg6 harg6 arg7 harg7 arg8 harg8 arg9 harg9 _ f1 f2 f3 f4 f5 f6 f7 _ _ f11 HL).2.1.read arg8 f7
    isplitl [H8]
    · iexists _; isplitr; swap; · iexact H8
      ipureintro
      exact out8_store c i arg1 harg1 arg2 harg2 arg3 harg3 arg4 harg4 arg5 harg5 arg6 harg6 arg7 harg7 arg8 harg8 arg9 harg9 _ f1 f2 f3 f4 f5 f6 f7 f8 _ _ f11 HL
    isplitl [H9]
    · iexists _; isplitr; swap; · iexact H9
      ipureintro
      exact HL
    isplitl [H10]
    · iexists _, _; isplitr; swap; · iexact H10
      ipureintro; rfl
    iexists _, _; isplitr; swap; · iexact H11
    ipureintro; rfl

end Cert.KernelIdeal.Val

end
-- ==== Proof.Blocks.lean ====
/-
  Hand-written, untrusted. The six input blocks of grid point `t` (batch `t`), entry by entry, as the argument arrays' entries, and
  where an entry of an output's block sits in its array.
-/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ) (c : Dev nD)

/-- A grid point's batch. -/
abbrev bt (t : Fin cfg0.N) : Fin 7 := ⟨t.val, t.isLt⟩

theorem V_v0 : V m c main_v0 = shapeCast S8x1792x768 (m ((c : Thread nD τ).loc main_arg0)) shapeCasts_S8x7x256x768_S8x1792x768 := by
  unfold V hostOps0; after_results; rfl
theorem V_v1 : V m c main_v1 = shapeCast S8x1792x96 (m ((c : Thread nD τ).loc main_arg1)) shapeCasts_S8x7x256x96_S8x1792x96 := by
  unfold V hostOps0; after_results; rfl
theorem V_v2 : V m c main_v2 = shapeCast S1x1536 (m ((c : Thread nD τ).loc main_arg3)) shapeCasts_S1536_S1x1536 := by
  unfold V hostOps0; after_results; rfl
theorem V_v3 : V m c main_v3 = shapeCast S1792x1536 (m ((c : Thread nD τ).loc main_arg4)) shapeCasts_S7x256x1536_S1792x1536 := by
  unfold V hostOps0; after_results; rfl
theorem V_v4 : V m c main_v4 = shapeCast S1x1536 (m ((c : Thread nD τ).loc main_arg5)) shapeCasts_S1536_S1x1536 := by
  unfold V hostOps0; after_results; rfl

theorem idx0 : ∀ t : Fin cfg0.N, win0_0.index t (0 : Fin 1) = 0 := (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

theorem emb0 (t : Fin cfg0.N) (j : S8.Idx) : ((cfg0.win 0).blk t).view.emb j = j := by
  have e0 := idx0 t
  funext a; apply Fin.ext
  match a with
  | ⟨0, _⟩ => show win0_0.index t (0 : Fin 1) * 8 + 1 * (j 0).val = (j 0).val; omega

theorem emb1 (t : Fin cfg0.N) (p : Fin 8) (r : Fin 256) (j : Fin 768) :
    ((cfg0.win 1).blk t).view.emb (ix3 p r j) = (ix3 p ⟨256 * (bt t).val + r.val, by omega⟩ j : S8x1792x768.Idx) := by
  obtain ⟨e0, e1, e2⟩ := idx1 t
  funext a; apply Fin.ext
  match a with
  | ⟨0, _⟩ => show win0_1.index t (0 : Fin 3) * 8 + 1 * p.val = p.val; omega
  | ⟨1, _⟩ => show win0_1.index t (1 : Fin 3) * 256 + 1 * r.val = 256 * t.val + r.val; omega
  | ⟨2, _⟩ => show win0_1.index t (2 : Fin 3) * 768 + 1 * j.val = j.val; omega

theorem emb2 (t : Fin cfg0.N) (p : Fin 8) (r : Fin 256) (j : Fin 96) :
    ((cfg0.win 2).blk t).view.emb (ix3 p r j) = (ix3 p ⟨256 * (bt t).val + r.val, by omega⟩ j : S8x1792x96.Idx) := by
  obtain ⟨e0, e1, e2⟩ := idx2 t
  funext a; apply Fin.ext
  match a with
  | ⟨0, _⟩ => show win0_2.index t (0 : Fin 3) * 8 + 1 * p.val = p.val; omega
  | ⟨1, _⟩ => show win0_2.index t (1 : Fin 3) * 256 + 1 * r.val = 256 * t.val + r.val; omega
  | ⟨2, _⟩ => show win0_2.index t (2 : Fin 3) * 96 + 1 * j.val = j.val; omega

theorem emb3 (t : Fin cfg0.N) (u : Fin 1) (d : Fin 1536) : ((cfg0.win 3).blk t).view.emb (ix2 u d) = (ix2 u d : S1x1536.Idx) := by
  obtain ⟨e0, e1⟩ := idx3 t
  funext a; apply Fin.ext
  match a with
  | ⟨0, _⟩ => show win0_3.index t (0 : Fin 2) * 1 + 1 * u.val = u.val; omega
  | ⟨1, _⟩ => show win0_3.index t (1 : Fin 2) * 1536 + 1 * d.val = d.val; omega

theorem emb4 (t : Fin cfg0.N) (r : Fin 256) (d : Fin 1536) :
    ((cfg0.win 4).blk t).view.emb (ix2 r d) = (ix2 ⟨256 * (bt t).val + r.val, by omega⟩ d : S1792x1536.Idx) := by
  obtain ⟨e0, e1⟩ := idx4 t
  funext a; apply Fin.ext
  match a with
  | ⟨0, _⟩ => show win0_4.index t (0 : Fin 2) * 256 + 1 * r.val = 256 * t.val + r.val; omega
  | ⟨1, _⟩ => show win0_4.index t (1 : Fin 2) * 1536 + 1 * d.val = d.val; omega

theorem emb5 (t : Fin cfg0.N) (u : Fin 1) (d : Fin 1536) : ((cfg0.win 5).blk t).view.emb (ix2 u d) = (ix2 u d : S1x1536.Idx) := by
  obtain ⟨e0, e1⟩ := idx5 t
  funext a; apply Fin.ext
  match a with
  | ⟨0, _⟩ => show win0_5.index t (0 : Fin 2) * 1 + 1 * u.val = u.val; omega
  | ⟨1, _⟩ => show win0_5.index t (1 : Fin 2) * 1536 + 1 * d.val = d.val; omega

theorem emb6 (t : Fin cfg0.N) (r : Fin 256) (d : Fin 1536) :
    ((cfg0.win 6).blk t).view.emb (ix2 r d) = (ix2 ⟨256 * (bt t).val + r.val, by omega⟩ d : S1792x1536.Idx) := by
  obtain ⟨e0, e1⟩ := idx6 t
  funext a; apply Fin.ext
  match a with
  | ⟨0, _⟩ => show win0_6.index t (0 : Fin 2) * 256 + 1 * r.val = 256 * t.val + r.val; omega
  | ⟨1, _⟩ => show win0_6.index t (1 : Fin 2) * 1536 + 1 * d.val = d.val; omega

theorem emb7 (t : Fin cfg0.N) (r : Fin 256) (d : Fin 1536) :
    ((cfg0.win 7).blk t).view.emb (ix2 r d) = (ix2 ⟨256 * (bt t).val + r.val, by omega⟩ d : S1792x1536.Idx) := by
  obtain ⟨e0, e1⟩ := idx7 t
  funext a; apply Fin.ext
  match a with
  | ⟨0, _⟩ => show win0_7.index t (0 : Fin 2) * 256 + 1 * r.val = 256 * t.val + r.val; omega
  | ⟨1, _⟩ => show win0_7.index t (1 : Fin 2) * 1536 + 1 * d.val = d.val; omega

theorem emb8 (t : Fin cfg0.N) (u v : Fin 1) (l : Fin 256) :
    ((cfg0.win 8).blk t).view.emb (ix3 u v l) = (ix3 (bt t) v l : S7x1x256.Idx) := by
  obtain ⟨e0, e1, e2⟩ := idx8 t
  funext a; apply Fin.ext
  match a with
  | ⟨0, _⟩ => show win0_8.index t (0 : Fin 3) * 1 + 1 * u.val = t.val; omega
  | ⟨1, _⟩ => show win0_8.index t (1 : Fin 3) * 1 + 1 * v.val = v.val; omega
  | ⟨2, _⟩ => show win0_8.index t (2 : Fin 3) * 256 + 1 * l.val = l.val; omega

/-! ## The input blocks -/

theorem iblk0_eq (t : Fin cfg0.N) : (iblk m c 0 t : Vec F S8 .f32) = m ((c : Thread nD τ).loc main_arg2) := by
  funext j
  show V m c main_arg2 (((cfg0.win 0).blk t).view.emb j) = _
  rw [emb0, V_main_arg2]

theorem iblk1_apply (t : Fin cfg0.N) (p : Fin 8) (r : Fin 256) (j : Fin 768) :
    (iblk m c 1 t : Vec F S8x256x768 .i8) (ix3 p r j) = (m ((c : Thread nD τ).loc main_arg0) : Vec F S8x7x256x768 .i8) (ix4 p (bt t) r j) := by
  show V m c main_v0 (((cfg0.win 1).blk t).view.emb (ix3 p r j)) = _
  rw [emb1, V_v0]
  refine shapeCast_apply _ _ _ _ ?_
  show (S8x7x256x768.rowMajor (ix4 p (bt t) r j)).val = (S8x1792x768.rowMajor (ix3 p (⟨256 * (bt t).val + r.val, by omega⟩) j)).val
  rw [Shape.rowMajor_val_three, Shape.rowMajor_val_four]
  show ((p.val * 7 + t.val) * 256 + r.val) * 768 + j.val = (p.val * 1792 + (256 * t.val + r.val)) * 768 + j.val
  omega

theorem iblk2_apply (t : Fin cfg0.N) (p : Fin 8) (r : Fin 256) (j : Fin 96) :
    (iblk m c 2 t : Vec F S8x256x96 .fp8e4m3) (ix3 p r j) = (m ((c : Thread nD τ).loc main_arg1) : Vec F S8x7x256x96 .fp8e4m3) (ix4 p (bt t) r j) := by
  show V m c main_v1 (((cfg0.win 2).blk t).view.emb (ix3 p r j)) = _
  rw [emb2, V_v1]
  refine shapeCast_apply _ _ _ _ ?_
  show (S8x7x256x96.rowMajor (ix4 p (bt t) r j)).val = (S8x1792x96.rowMajor (ix3 p (⟨256 * (bt t).val + r.val, by omega⟩) j)).val
  rw [Shape.rowMajor_val_three, Shape.rowMajor_val_four]
  show ((p.val * 7 + t.val) * 256 + r.val) * 96 + j.val = (p.val * 1792 + (256 * t.val + r.val)) * 96 + j.val
  omega

theorem iblk3_apply (t : Fin cfg0.N) (d : Fin 1536) :
    (iblk m c 3 t : Vec F S1x1536 .f32) (ix2 0 d) = (m ((c : Thread nD τ).loc main_arg3) : Vec F S1536 .f32) (ix1 d) := by
  show V m c main_v2 (((cfg0.win 3).blk t).view.emb (ix2 0 d)) = _
  rw [emb3, V_v2]
  refine shapeCast_apply _ _ _ _ ?_
  show (S1536.rowMajor (ix1 d)).val = (S1x1536.rowMajor (ix2 0 d)).val
  rw [Shape.rowMajor_val_two, Shape.rowMajor_val_one]
  show d.val = 0 * 1536 + d.val
  omega

theorem iblk4_apply (t : Fin cfg0.N) (r : Fin 256) (d : Fin 1536) :
    (iblk m c 4 t : Vec F S256x1536 .bf16) (ix2 r d) = (m ((c : Thread nD τ).loc main_arg4) : Vec F S7x256x1536 .bf16) (ix3 (bt t) r d) := by
  show V m c main_v3 (((cfg0.win 4).blk t).view.emb (ix2 r d)) = _
  rw [emb4, V_v3]
  refine shapeCast_apply _ _ _ _ ?_
  show (S7x256x1536.rowMajor (ix3 (bt t) r d)).val = (S1792x1536.rowMajor (ix2 (⟨256 * (bt t).val + r.val, by omega⟩) d)).val
  rw [Shape.rowMajor_val_two, Shape.rowMajor_val_three]
  show (t.val * 256 + r.val) * 1536 + d.val = (256 * t.val + r.val) * 1536 + d.val
  omega

theorem iblk5_apply (t : Fin cfg0.N) (d : Fin 1536) :
    (iblk m c 5 t : Vec F S1x1536 .f32) (ix2 0 d) = (m ((c : Thread nD τ).loc main_arg5) : Vec F S1536 .f32) (ix1 d) := by
  show V m c main_v4 (((cfg0.win 5).blk t).view.emb (ix2 0 d)) = _
  rw [emb5, V_v4]
  refine shapeCast_apply _ _ _ _ ?_
  show (S1536.rowMajor (ix1 d)).val = (S1x1536.rowMajor (ix2 0 d)).val
  rw [Shape.rowMajor_val_two, Shape.rowMajor_val_one]
  show d.val = 0 * 1536 + d.val
  omega

/-! ## The output blocks cover their arrays -/

theorem cover6 (i : S1792x1536.Idx) : ∃ t : Fin cfg0.N, (cfg0.win 6).flush t = true ∧ i ∈ ((cfg0.win 6).blk t).view.set := by
  obtain ⟨a, d, rfl⟩ : ∃ (a : Fin 1792) (d : Fin 1536), i = ix2 a d := ⟨i 0, i 1, (ix2_eta i).symm⟩
  have ha := a.isLt
  refine ⟨(⟨a.val / 256, (by omega : a.val / 256 < 7)⟩ : Fin cfg0.N), flush0_6 _, ?_⟩
  have h := ((cfg0.win 6).blk (⟨a.val / 256, (by omega : a.val / 256 < 7)⟩ : Fin cfg0.N)).view.emb_mem_set (ix2 ⟨a.val % 256, by omega⟩ d)
  rw [emb6] at h
  have e : (⟨256 * (a.val / 256) + a.val % 256, by omega⟩ : Fin 1792) = a := Fin.ext (by dsimp only; omega)
  dsimp only [bt] at h
  rwa [e] at h

theorem cover7 (i : S1792x1536.Idx) : ∃ t : Fin cfg0.N, (cfg0.win 7).flush t = true ∧ i ∈ ((cfg0.win 7).blk t).view.set := by
  obtain ⟨a, d, rfl⟩ : ∃ (a : Fin 1792) (d : Fin 1536), i = ix2 a d := ⟨i 0, i 1, (ix2_eta i).symm⟩
  have ha := a.isLt
  refine ⟨(⟨a.val / 256, (by omega : a.val / 256 < 7)⟩ : Fin cfg0.N), flush0_7 _, ?_⟩
  have h := ((cfg0.win 7).blk (⟨a.val / 256, (by omega : a.val / 256 < 7)⟩ : Fin cfg0.N)).view.emb_mem_set (ix2 ⟨a.val % 256, by omega⟩ d)
  rw [emb7] at h
  have e : (⟨256 * (a.val / 256) + a.val % 256, by omega⟩ : Fin 1792) = a := Fin.ext (by dsimp only; omega)
  dsimp only [bt] at h
  rwa [e] at h

theorem cover8 (i : S7x1x256.Idx) : ∃ t : Fin cfg0.N, (cfg0.win 8).flush t = true ∧ i ∈ ((cfg0.win 8).blk t).view.set := by
  obtain ⟨b, v, l, rfl⟩ : ∃ (b : Fin 7) (v : Fin 1) (l : Fin 256), i = ix3 b v l := ⟨i 0, i 1, i 2, (ix3_eta i).symm⟩
  refine ⟨(⟨b.val, b.isLt⟩ : Fin cfg0.N), flush0_8 _, ?_⟩
  have h := ((cfg0.win 8).blk (⟨b.val, b.isLt⟩ : Fin cfg0.N)).view.emb_mem_set (ix3 0 v l)
  rwa [emb8] at h

end Cert.KernelIdeal.Val

end
-- ==== Proof.RefRows.lean ====
/-
  Hand-written, untrusted. The reference's three results, entry by entry.
-/
module

public import proofs.«01_k».proof.Proof.Codes
public import proofs.«01_k».proof.Proof.Maths
public import proofs.«01_k».proof.Proof.Gen.ReferenceIdeal.Value

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic

/-- A maximum over the last axis, at one token. -/
theorem max_apply (z : FVec Ideal S7x256x1536 .f32) (b : Fin 7) (t : Fin 256) :
    multiReduction .maximumf [2] S7x256 z 0xFF800000#32 reduces_S7x256x1536_S7x256 (.inl rfl) rfl (ix2 b t)
      = Finset.univ.fold max (Ideal.ofBits .f32 0xFF800000#32) (fun d => z (ix3 b t d)) := by
  classical
  refine (multiReduction_maximumf_eq_fold _ _ _ _ _ _).trans ((Shape.Reduces.fold_filter_drop_single _ _ _ _ _).trans ?_)
  refine congrArg (fun f => Finset.univ.fold max (Ideal.ofBits .f32 0xFF800000#32) f) (funext fun d => ?_)
  show z _ = z _
  congr 1
  funext a
  apply Fin.ext
  rw [Shape.Reduces.lift_val]
  fin_cases a <;> rfl

/-- The largest magnitude over 448, at one token. -/
theorem top_apply (z : FVec Ideal S7x256x1536 .f32) (b : Fin 7) (t : Fin 256) :
    mulf (multiReduction .maximumf [2] S7x256 (absf z) 0xFF800000#32 reduces_S7x256x1536_S7x256 (.inl rfl) rfl)
      (broadcast S7x256 (Scalar.ofBits .f32 0x3B124925#32)) (ix2 b t) = Row.top (fun d => z (ix3 b t d)) := by
  have h : ∀ (A B : FVec Ideal S7x256 .f32) i, mulf A B i = A i * B i := fun _ _ _ => rfl
  unfold Row.top
  rw [h, max_apply]
  have h2 : ∀ i, absf z i = max (z i) (-(z i)) := fun _ => rfl
  simp only [h2]
  rfl

section
variable (v4 : FVec Ideal S8x7x256x96x1 .f32) (v6 : FVec Ideal S8x1x1x1x1 .f32) (v43 : FVec Ideal S8x7x256x96x8 .f32) (v49 : IVec S8x7x256x768 1) (v53 : IVec S8x7x256x768 1) (v68 : FVec Ideal S8x7x256x768 .f32) (v75 : FVec Ideal S8x7x256x768 .f32) (v95 : Vec Ideal S1536 .f32) (v99 : Vec Ideal S7x256x1536 .bf16) (v114 : Vec Ideal S1536 .f32)

theorem y_apply (b : Fin 7) (t : Fin 256) (d : Fin 1536) : k0_pay24 v4 v6 v43 v49 v53 v68 v75 v95 v99 v114 (ix3 b t d)
    = Row.y (fun d => k0_pay23 v4 v6 v43 v49 v53 v68 v75 v95 v99 (ix3 b t d)) (fun d => v114 (ix1 d)) d := by
  unfold k0_pay24
  generalize k0_pay23 v4 v6 v43 v49 v53 v68 v75 v95 v99 = R
  pointwise
  rfl

theorem pay25_eq : k0_pay25 v4 v6 v43 v49 v53 v68 v75 v95 v99 v114
    = mulf (multiReduction .maximumf [2] S7x256 (absf (k0_pay24 v4 v6 v43 v49 v53 v68 v75 v95 v99 v114)) 0xFF800000#32 reduces_S7x256x1536_S7x256 (.inl rfl) rfl)
        (broadcast S7x256 (Scalar.ofBits .f32 0x3B124925#32)) := rfl

theorem v_apply (b : Fin 7) (t : Fin 256) : k0_pay25 v4 v6 v43 v49 v53 v68 v75 v95 v99 v114 (ix2 b t)
    = Row.top (Row.y (fun d => k0_pay23 v4 v6 v43 v49 v53 v68 v75 v95 v99 (ix3 b t d)) (fun d => v114 (ix1 d))) :=
  ((congrFun (pay25_eq v4 v6 v43 v49 v53 v68 v75 v95 v99 v114) (ix2 b t)).trans (top_apply _ b t)).trans
    (congrArg Row.top (funext fun d => y_apply v4 v6 v43 v49 v53 v68 v75 v95 v99 v114 b t d))

end

theorem named_ln2 : (Named.named (F := Ideal) (φ := .f32) κ "ln_2" 1060205080#32 : EReal) = ((Real.log 2 : ℝ) : EReal) := rfl

theorem ys_apply (v : FVec Ideal S7x256 .f32) (b : Fin 7) (t : Fin 256) : k0_pay4 v (Scalar.ofBits .f32 0x00800000#32) (ix3 b 0 t) = Row.scale (v (ix2 b t)) := by
  unfold k0_pay4
  pointwise [k0_pay1]
  rw [named_ln2]; rfl

theorem codes_apply (y : FVec Ideal S7x256x1536 .f32) (v : FVec Ideal S7x256 .f32) (b : Fin 7) (t : Fin 256) (d : Fin 1536) :
    k0_pay3 y v (Scalar.ofBits .f32 0x00800000#32) (ix2 ⟨256 * b.val + t.val, by omega⟩ d) = Row.cd (y (ix3 b t d)) (v (ix2 b t)) := by
  unfold k0_pay3
  pointwise [k0_pay1]
  rw [named_ln2]; rfl

theorem nrs_apply (n : FVec Ideal S7x256x1536 .bf16) (b : Fin 7) (t : Fin 256) (d : Fin 1536) :
    k0_pay2 n (ix2 ⟨256 * b.val + t.val, by omega⟩ d) = n (ix3 b t d) := by
  unfold k0_pay2
  pointwise

/-! ## The residual -/

variable (a0 : Vec Ideal S8x7x256x768 .i8) (a1 : Vec Ideal S8x7x256x96 .fp8e4m3) (a2 : Vec Ideal S8 .f32) (a3 : Vec Ideal S1536 .f32) (a4 : Vec Ideal S7x256x1536 .bf16) (a5 : Vec Ideal S1536 .f32)

/-- The residual of token `(b, t)` at channel `d`: the sum over the partials of code times block scale times shard scale, plus the
    bias, plus the residual input. -/
def resid (b : Fin 7) (t : Fin 256) (d : Fin 1536) : EReal :=
  (∑ p : Fin 8, KernelIdeal.Val.code (a0 (ix4 p b t ⟨d.val / 2, by omega⟩)) ⟨d.val % 2, by omega⟩ * a1 (ix4 p b t ⟨d.val / 16, by omega⟩) * a2 (ix1 p))
    + a3 (ix1 d) + a4 (ix3 b t d)

theorem one_bits : Ideal.ofBits .f32 0x3F800000#32 = 1 := by
  have h : Ideal.ofBits .f32 0x3F800000#32 = ((1 : ℝ) : EReal) := by simp [Ideal.ofBits, Ideal.ieee, -EReal.coe_mul]; norm_num
  exact h
theorem zero_bits : Ideal.ofBits .f32 0x00000000#32 = 0 := by simp [Ideal.ofBits, Ideal.ieee]

theorem resid_apply (b : Fin 7) (t : Fin 256) (d : Fin 1536) :
    k0_pay23 (k0_pay27 a0 a1 a2 a3 a4 a5) (k0_pay28 a0 a1 a2 a3 a4 a5) (k0_pay29 a0 a1 a2 a3 a4 a5) (k0_pay30 a0 a1 a2 a3 a4 a5) (k0_pay31 a0 a1 a2 a3 a4 a5) (k0_pay32 a0 a1 a2 a3 a4 a5) (k0_pay33 a0 a1 a2 a3 a4 a5) a3 a4 (ix3 b t d)
      = resid a0 a1 a2 a3 a4 b t d := by
  unfold k0_pay23 k0_pay27 k0_pay28 k0_pay29 k0_pay30 k0_pay31 k0_pay32 k0_pay33 k0_pay26
  rw [View.ld_unit_zero (S := S8x7x256x768) hz0 _ a0, View.ld_unit_zero (S := S8x7x256x96) hz1 _ a1, View.ld_unit_zero (S := S8) hz2 _ a2]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  unfold resid
  have hi : ∀ x : Fin 8, (ix4 x b t (⟨d.val / 16 * 8 + d.val / 2 % 8, by omega⟩ : Fin 768)) = ix4 x b t ⟨d.val / 2, by omega⟩ :=
    fun x => congrArg (ix4 x b t) (Fin.ext (by dsimp only; omega))
  simp only [hi]
  refine congrArg (fun s => s + a3 (ix1 d) + a4 (ix3 b t d)) ?_
  split
  · next h =>
    have hq : (⟨d.val % 2, by omega⟩ : Fin 2) = 0 := Fin.ext (by change d.val % 2 = 0; omega)
    simp only [hq, KernelIdeal.Val.code, KernelIdeal.Val.nibOf, KernelIdeal.Val.nib, one_bits, zero_bits]
  · next h =>
    have hq : (⟨d.val % 2, by omega⟩ : Fin 2) = 1 := Fin.ext (by change d.val % 2 = 1; omega)
    simp only [hq, KernelIdeal.Val.code, KernelIdeal.Val.nibOf, KernelIdeal.Val.nib, one_bits, zero_bits]

end Cert.ReferenceIdeal.Val

end
-- ==== Proof.RefVals.lean ====
/-
  Hand-written, untrusted. The reference's three result arrays, entry by entry, in the mathematics of `Cert.Row`.
-/
module

public import proofs.«01_k».proof.Proof.RefRows

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.Tactic

variable (a0 : Vec Ideal S8x7x256x768 .i8) (a1 : Vec Ideal S8x7x256x96 .fp8e4m3) (a2 : Vec Ideal S8 .f32) (a3 : Vec Ideal S1536 .f32) (a4 : Vec Ideal S7x256x1536 .bf16) (a5 : Vec Ideal S1536 .f32)

theorem v_eq (b : Fin 7) (t : Fin 256) : k0_pay34 a0 a1 a2 a3 a4 a5 (ix2 b t)
    = Row.top (Row.y (fun d => resid a0 a1 a2 a3 a4 b t d) (fun d => a5 (ix1 d))) := by
  unfold k0_pay34
  rw [View.ld_unit_zero (S := S1536) hz3 _ a3, View.ld_unit_zero (S := S7x256x1536) hz4 _ a4, View.ld_unit_zero (S := S1536) hz5 _ a5, v_apply]
  exact congrArg (fun R => Row.top (Row.y R (fun d => a5 (ix1 d)))) (funext fun d => resid_apply a0 a1 a2 a3 a4 a5 b t d)

theorem y_eq (b : Fin 7) (t : Fin 256) (d : Fin 1536) :
    k0_pay24 (k0_pay27 a0 a1 a2 a3 a4 a5) (k0_pay28 a0 a1 a2 a3 a4 a5) (k0_pay29 a0 a1 a2 a3 a4 a5) (k0_pay30 a0 a1 a2 a3 a4 a5) (k0_pay31 a0 a1 a2 a3 a4 a5) (k0_pay32 a0 a1 a2 a3 a4 a5) (k0_pay33 a0 a1 a2 a3 a4 a5) a3 a4 a5 (ix3 b t d)
      = Row.y (fun d => resid a0 a1 a2 a3 a4 b t d) (fun d => a5 (ix1 d)) d :=
  (y_apply _ _ _ _ _ _ _ _ _ _ b t d).trans
    (congrArg (fun R => Row.y R (fun d => a5 (ix1 d)) d) (funext fun d => resid_apply a0 a1 a2 a3 a4 a5 b t d))

/-- The new residual. -/
theorem G6_apply (b : Fin 7) (t : Fin 256) (d : Fin 1536) :
    G6 a0 a1 a2 a3 a4 a5 (ix2 ⟨256 * b.val + t.val, by omega⟩ d) = resid a0 a1 a2 a3 a4 b t d :=
  (nrs_apply _ b t d).trans (resid_apply a0 a1 a2 a3 a4 a5 b t d)

/-- The codes. -/
theorem G7_apply (b : Fin 7) (t : Fin 256) (d : Fin 1536) :
    G7 a0 a1 a2 a3 a4 a5 (ix2 ⟨256 * b.val + t.val, by omega⟩ d)
      = Row.cd (Row.y (fun d => resid a0 a1 a2 a3 a4 b t d) (fun d => a5 (ix1 d)) d)
          (Row.top (Row.y (fun d => resid a0 a1 a2 a3 a4 b t d) (fun d => a5 (ix1 d)))) :=
  (codes_apply _ _ b t d).trans (congrArg₂ Row.cd (y_eq a0 a1 a2 a3 a4 a5 b t d) (v_eq a0 a1 a2 a3 a4 a5 b t))

/-- The scales. -/
theorem G8_apply (b : Fin 7) (t : Fin 256) :
    G8 a0 a1 a2 a3 a4 a5 (ix3 b 0 t) = Row.scale (Row.top (Row.y (fun d => resid a0 a1 a2 a3 a4 b t d) (fun d => a5 (ix1 d)))) :=
  (ys_apply _ b t).trans (congrArg Row.scale (v_eq a0 a1 a2 a3 a4 a5 b t))

end Cert.ReferenceIdeal.Val

end
-- ==== Proof.Values.lean ====
/-
  Hand-written, untrusted. What a grid point's body leaves in its output blocks, entry by entry, is the reference's result there:
  the residual, the codes and the scales of the token rows of its batch.
-/
module

public import proofs.«01_k».proof.Proof.Blocks
public import proofs.«01_k».proof.Proof.Target
public import proofs.«01_k».proof.Proof.RefVals

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The argument arrays as launched. -/
abbrev A0 : Vec Ideal S8x7x256x768 .i8 := m ((c : Thread nD τ).loc main_arg0)
abbrev A1 : Vec Ideal S8x7x256x96 .fp8e4m3 := m ((c : Thread nD τ).loc main_arg1)
abbrev A2 : Vec Ideal S8 .f32 := m ((c : Thread nD τ).loc main_arg2)
abbrev A3 : Vec Ideal S1536 .f32 := m ((c : Thread nD τ).loc main_arg3)
abbrev A4 : Vec Ideal S7x256x1536 .bf16 := m ((c : Thread nD τ).loc main_arg4)
abbrev A5 : Vec Ideal S1536 .f32 := m ((c : Thread nD τ).loc main_arg5)

/-- The input blocks of a point. -/
abbrev B0 (t : Fin cfg0.N) : Vec Ideal S8 .f32 := iblk m c 0 t
abbrev B1 (t : Fin cfg0.N) : Vec Ideal S8x256x768 .i8 := iblk m c 1 t
abbrev B2 (t : Fin cfg0.N) : Vec Ideal S8x256x96 .fp8e4m3 := iblk m c 2 t
abbrev B3 (t : Fin cfg0.N) : Vec Ideal S1x1536 .f32 := iblk m c 3 t
abbrev B4 (t : Fin cfg0.N) : Vec Ideal S256x1536 .bf16 := iblk m c 4 t
abbrev B5 (t : Fin cfg0.N) : Vec Ideal S1x1536 .f32 := iblk m c 5 t

theorem KR_eq (t : Fin cfg0.N) (r : Fin 256) :
    KR (B0 m c t) (B1 m c t) (B2 m c t) (B3 m c t) (B4 m c t) r
      = fun d => ReferenceIdeal.Val.resid (A0 m c) (A1 m c) (A2 m c) (A3 m c) (A4 m c) (bt t) r d := by
  funext d
  unfold KR ReferenceIdeal.Val.resid
  refine congrArg₂ (· + ·) (congrArg₂ (· + ·) (Finset.sum_congr rfl fun p _ => ?_) (iblk3_apply m c t d)) (iblk4_apply m c t r d)
  refine (mul_comm _ _).trans ?_
  refine congrArg₂ (· * ·) (congrArg₂ (· * ·) (congrArg (fun w => code w _) (iblk1_apply m c t p r _)) (iblk2_apply m c t p r _)) ?_
  exact congrFun (iblk0_eq m c t) (ix1 p)

theorem KG_eq (t : Fin cfg0.N) : KG (B5 m c t) = fun d => A5 m c (ix1 d) := funext fun d => iblk5_apply m c t d

/-- The new residual's block. -/
theorem out6_eq (t : Fin cfg0.N) (y : S256x1536.Idx) :
    out6 (B0 m c t) (B1 m c t) (B2 m c t) (B3 m c t) (B4 m c t) y
      = ReferenceIdeal.Value.G6 (A0 m c) (A1 m c) (A2 m c) (A3 m c) (A4 m c) (A5 m c) (((cfg0.win 6).blk t).view.emb y) := by
  obtain ⟨r, d, rfl⟩ : ∃ (r : Fin 256) (d : Fin 1536), y = ix2 r d := ⟨y 0, y 1, (ix2_eta y).symm⟩
  refine (congrFun (KR_eq m c t r) d).trans ?_
  refine (ReferenceIdeal.Val.G6_apply (A0 m c) (A1 m c) (A2 m c) (A3 m c) (A4 m c) (A5 m c) (bt t) r d).symm.trans ?_
  exact (congrArg (ReferenceIdeal.Value.G6 (A0 m c) (A1 m c) (A2 m c) (A3 m c) (A4 m c) (A5 m c)) (emb6 t r d)).symm

section
variable (hg : ∀ d : Fin 1536, max (A5 m c (ix1 d)) (-(A5 m c (ix1 d))) ≤ Ideal.ofBits .f32 0x7F7FFFFF#32)
include hg

/-- The codes' block. -/
theorem out7_eq (t : Fin cfg0.N) (y : S256x1536.Idx) :
    out7 (B0 m c t) (B1 m c t) (B2 m c t) (B3 m c t) (B4 m c t) (B5 m c t) y
      = ReferenceIdeal.Value.G7 (A0 m c) (A1 m c) (A2 m c) (A3 m c) (A4 m c) (A5 m c) (((cfg0.win 7).blk t).view.emb y) := by
  obtain ⟨r, d, rfl⟩ : ∃ (r : Fin 256) (d : Fin 1536), y = ix2 r d := ⟨y 0, y 1, (ix2_eta y).symm⟩
  show Row.kcd (KR (B0 m c t) (B1 m c t) (B2 m c t) (B3 m c t) (B4 m c t) r) (KG (B5 m c t))
    (Row.ktop (KR (B0 m c t) (B1 m c t) (B2 m c t) (B3 m c t) (B4 m c t) r) (KG (B5 m c t))) d = _
  rw [KR_eq, KG_eq]
  refine (Row.kcd_top _ _ hg d).trans ?_
  refine (ReferenceIdeal.Val.G7_apply (A0 m c) (A1 m c) (A2 m c) (A3 m c) (A4 m c) (A5 m c) (bt t) r d).symm.trans ?_
  exact (congrArg (ReferenceIdeal.Value.G7 (A0 m c) (A1 m c) (A2 m c) (A3 m c) (A4 m c) (A5 m c)) (emb7 t r d)).symm

/-- The row of scales. -/
theorem out8_eq (t : Fin cfg0.N) (y : S1x1x256.Idx) :
    out8 (B0 m c t) (B1 m c t) (B2 m c t) (B3 m c t) (B4 m c t) (B5 m c t) y
      = ReferenceIdeal.Value.G8 (A0 m c) (A1 m c) (A2 m c) (A3 m c) (A4 m c) (A5 m c) (((cfg0.win 8).blk t).view.emb y) := by
  obtain ⟨u, v, l, rfl⟩ : ∃ (u v : Fin 1) (l : Fin 256), y = ix3 u v l := ⟨y 0, y 1, y 2, (ix3_eta y).symm⟩
  obtain rfl : v = 0 := Subsingleton.elim _ _
  show Row.kscale (Row.ktop (KR (B0 m c t) (B1 m c t) (B2 m c t) (B3 m c t) (B4 m c t) l) (KG (B5 m c t))) = _
  rw [KR_eq, KG_eq]
  refine (Row.kscale_top _ _ hg).trans ?_
  refine (ReferenceIdeal.Val.G8_apply (A0 m c) (A1 m c) (A2 m c) (A3 m c) (A4 m c) (A5 m c) (bt t) l).symm.trans ?_
  exact (congrArg (ReferenceIdeal.Value.G8 (A0 m c) (A1 m c) (A2 m c) (A3 m c) (A4 m c) (A5 m c)) (emb8 t u 0 l)).symm

end

end Cert.KernelIdeal.Val

end
-- ==== Proof.Run.lean ====
/-
  Hand-written, untrusted. The run of `KernelIdeal` at the ideal instance, under the precondition: the three result arrays end at
  the reference's functions of the arguments. Between the points the first scratch holds the constant matrix of the shard scales,
  from the first point on.
-/
module

public import proofs.«01_k».proof.Proof.KernelVal
public import proofs.«01_k».proof.Proof.Values

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The body's conditional holds at the first point only. -/
theorem first_iff : ∀ t : Fin cfg0.N, first (grid0.coords t) ↔ t.val = 0 := (by decide +kernel : ∀ t : Fin grid0.N, _)

/-- The invariant between the points: the first scratch at the constant matrix, but before the first point at anything; the other two
    at anything; the generator register at some state. -/
def PhiV (c : Dev nD) (n : ℕ) : sProp 𝕄 :=
  iprop(iprop((∃ d, owns (c : Thread nD τ) scM0 fullShare d ∗ ⌜n = 0 ∨ d = lhsMat (A2 m c)⌝) ∗ (∃ d, owns (c : Thread nD τ) scM1 fullShare d) ∗ (∃ d, owns (c : Thread nD τ) scM2 fullShare d))
    ∗ (∃ r, prngReg c r))

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t)
    | ⟨7, _⟩ => out7 (iblk m c 0 t) (iblk m c 1 t) (iblk m c 2 t) (iblk m c 3 t) (iblk m c 4 t) (iblk m c 5 t)
    | ⟨8, _⟩ => out8 (iblk m c 0 t) (iblk m c 1 t) (iblk m c 2 t) (iblk m c 3 t) (iblk m c 4 t) (iblk m c 5 t)
  Φ t := PhiV m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = out6 (iblk m c 0 t) (iblk m c 1 t) (iblk m c 2 t) (iblk m c 3 t) (iblk m c 4 t) := by dsimp only [dats]
theorem after0_7 (c : Dev nD) (t : Fin cfg0.N) : (dats m 0 c).after 7 t = out7 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out8 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`: the inputs' blocks, the outputs' buffers at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

section
variable (hss : ∀ (c : Dev nD) (p : Fin 8), max (A2 m c (ix1 p)) (-(A2 m c (ix1 p))) ≤ Ideal.ofBits .f32 0x7F7FFFFF#32)
include hss

/-- The body at any point: the inputs' memrefs hold their blocks, the invariant is opened for the scratches, `sound_kernel`. -/
theorem sound_body (c : Dev nD) (t : Fin cfg0.N) :
    bodyPre m c t ⊢ wp frame (wpE (defs₀ (F := Ideal)) Variants.none c none) Set.univ (bodyAt0 t) (fun _ => bodyPost m c t) := by
  have e0 : B0 m c t = A2 m c := iblk0_eq m c t
  have hs : ∀ p : Fin 8, max (B0 m c t (ix1 p)) (-(B0 m c t (ix1 p))) ≤ Ideal.ofBits .f32 0x7F7FFFFF#32 := fun p => by
    rw [e0]; exact hss c p
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = PhiV m c t.val from rfl, show (dats m 0 c).Φ t.succ = PhiV m c (t.val + 1) from rfl,
    after0_0, after0_1, after0_2, after0_3, after0_4, after0_5, after0_6, after0_7, after0_8]
  unfold PhiV
  iintro ⟨⟨⟨⟨%d9, HS0, %h9⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) hs _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]
  · iexists d9
    isplitl [HS0]; · iexact HS0
    ipureintro
    exact h9.imp (first_iff t).2 fun e => e.trans (congrArg lhsMat e0.symm)
  isplitl [HS1]; · iexact HS1
  isplitl [HS2]; · iexact HS2
  iintro ⟨H0, H1, H2, H3, H4, H5, H6, H7, H8, HS0, HS1, HS2⟩
  isplitl [HS0 HS1 HS2 Hg]
  · isplitr [Hg]; swap; · iexact Hg
    isplitl [HS0]
    · iexists _
      isplitl [HS0]; · iexact HS0
      ipureintro
      exact Or.inr (congrArg lhsMat e0)
    isplitl [HS1]; · iexact HS1
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation. -/
theorem body_obligation (c : Dev nD) : BodyObligation (dats m 0 c) (defs₀ (F := Ideal)) Variants.none () Set.univ := fun t => by
  rw [bigSep_W0, bigSep_W0, defs₀_row]
  exact triple_restated (sound_body m hss c t) rfl .rfl fun _ => .rfl

omit hss in
theorem hin (c : Dev nD) : (Pipeline.ΦA spec0 c : sProp 𝕄) ⊢ PhiV m c 0 := by
  rw [PhiA0_eq]
  unfold PhiV
  iintro ⟨⟨⟨%d, HS0⟩, HS1, HS2⟩, Hg⟩
  isplitr [Hg]; swap; · iexact Hg
  isplitl [HS0]
  · iexists d
    isplitl [HS0]; · iexact HS0
    ipureintro
    exact Or.inl rfl
  isplitl [HS1]; · iexact HS1
  iexact HS2

omit hss in
theorem hout (c : Dev nD) (n : ℕ) : PhiV m c n ⊢ (Pipeline.ΦA spec0 c : sProp 𝕄) := by
  rw [PhiA0_eq]
  unfold PhiV
  iintro ⟨⟨⟨%d, HS0, -⟩, HS1, HS2⟩, Hg⟩
  isplitr [Hg]; swap; · iexact Hg
  isplitl [HS0]; · iexists d; iexact HS0
  isplitl [HS1]; · iexact HS1
  iexact HS2

/-! ## The launch -/

set_option backward.isDefEq.respectTransparency.types false in
set_option maxHeartbeats 800000 in
/-- Every weakly fair execution of @main terminates, every final state has the windows' arrays at what the proof data says. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m hss c).loose) (hshare := fun c => (dats m 0 c).share_full fun _ => rfl)
    (howed := fun _ _ => rfl) (V := V m) (hmain := hmain m Variants.none) (hA := A_eq m) (hin := hin m) (hout := fun c => hout m c _)

end

end Cert.KernelIdeal.Val

end
-- ==== Proof.Out.lean ====
/-
  Hand-written, untrusted. What the run of `KernelIdeal` leaves in the three result arrays, at the ideal instance and under the
  precondition: the reference's functions of the arguments.
-/
module

public import proofs.«01_k».proof.Proof.Run

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! ## The result arrays -/

theorem post6 (r : PUnit × MemSt nD τ sig (Elt Ideal)) (h : Pipeline.FramePost cfgs (dats m) 0 (V m) r) (c : Dev nD) :
    r.2.mem ((c : Thread nD τ).loc main_v5_0) = (dats m 0 c).arrAt 6 cfg0.N :=
  (h c).1 6
theorem post7 (r : PUnit × MemSt nD τ sig (Elt Ideal)) (h : Pipeline.FramePost cfgs (dats m) 0 (V m) r) (c : Dev nD) :
    r.2.mem ((c : Thread nD τ).loc main_v5_1) = (dats m 0 c).arrAt 7 cfg0.N :=
  (h c).1 7
theorem post8 (r : PUnit × MemSt nD τ sig (Elt Ideal)) (h : Pipeline.FramePost cfgs (dats m) 0 (V m) r) (c : Dev nD) :
    r.2.mem ((c : Thread nD τ).loc main_v5_2) = (dats m 0 c).arrAt 8 cfg0.N :=
  (h c).1 8
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The array of window 6, by its blocks. -/
theorem final6_of (c : Dev nD) (G : Vec Ideal S1792x1536 .bf16)
    (h : ∀ (t : Fin cfg0.N) (y : S256x1536.Idx), out6 (B0 m c t) (B1 m c t) (B2 m c t) (B3 m c t) (B4 m c t) y = G (((cfg0.win 6).blk t).view.emb y)) :
    (dats m 0 c).arrAt 6 cfg0.N = G :=
  (dats m 0 c).arrAt_eq_of_cover 6 G (fun t _ => by
    show (cfg0.win 6).cut (grid0.coords t) ((dats m 0 c).after 6 t) = _
    rw [after0_6]
    funext y
    exact h t y) cover6

/-- The array of window 7, by its blocks. -/
theorem final7_of (c : Dev nD) (G : Vec Ideal S1792x1536 .fp8e4m3)
    (h : ∀ (t : Fin cfg0.N) (y : S256x1536.Idx), out7 (B0 m c t) (B1 m c t) (B2 m c t) (B3 m c t) (B4 m c t) (B5 m c t) y = G (((cfg0.win 7).blk t).view.emb y)) :
    (dats m 0 c).arrAt 7 cfg0.N = G :=
  (dats m 0 c).arrAt_eq_of_cover 7 G (fun t _ => by
    show (cfg0.win 7).cut (grid0.coords t) ((dats m 0 c).after 7 t) = _
    rw [after0_7]
    funext y
    exact h t y) cover7

/-- The array of window 8, by its blocks. -/
theorem final8_of (c : Dev nD) (G : Vec Ideal S7x1x256 .f32)
    (h : ∀ (t : Fin cfg0.N) (y : S1x1x256.Idx), out8 (B0 m c t) (B1 m c t) (B2 m c t) (B3 m c t) (B4 m c t) (B5 m c t) y = G (((cfg0.win 8).blk t).view.emb y)) :
    (dats m 0 c).arrAt 8 cfg0.N = G :=
  (dats m 0 c).arrAt_eq_of_cover 8 G (fun t _ => by
    show (cfg0.win 8).cut (grid0.coords t) ((dats m 0 c).after 8 t) = _
    rw [after0_8]
    funext y
    exact h t y) cover8

theorem final6 (c : Dev nD) : (dats m 0 c).arrAt 6 cfg0.N = ReferenceIdeal.Value.G6 (A0 m c) (A1 m c) (A2 m c) (A3 m c) (A4 m c) (A5 m c) :=
  final6_of m c (ReferenceIdeal.Value.G6 (A0 m c) (A1 m c) (A2 m c) (A3 m c) (A4 m c) (A5 m c)) fun t y => out6_eq m c t y

section
variable (hg : ∀ (c : Dev nD) (d : Fin 1536), max (A5 m c (ix1 d)) (-(A5 m c (ix1 d))) ≤ Ideal.ofBits .f32 0x7F7FFFFF#32)
include hg

theorem final7 (c : Dev nD) : (dats m 0 c).arrAt 7 cfg0.N = ReferenceIdeal.Value.G7 (A0 m c) (A1 m c) (A2 m c) (A3 m c) (A4 m c) (A5 m c) :=
  final7_of m c (ReferenceIdeal.Value.G7 (A0 m c) (A1 m c) (A2 m c) (A3 m c) (A4 m c) (A5 m c)) fun t y => out7_eq m c (hg c) t y

theorem final8 (c : Dev nD) : (dats m 0 c).arrAt 8 cfg0.N = ReferenceIdeal.Value.G8 (A0 m c) (A1 m c) (A2 m c) (A3 m c) (A4 m c) (A5 m c) :=
  final8_of m c (ReferenceIdeal.Value.G8 (A0 m c) (A1 m c) (A2 m c) (A3 m c) (A4 m c) (A5 m c)) fun t y => out8_eq m c (hg c) t y

/-- THE RUN: each result array at its function of the arguments, the arguments unchanged. -/
theorem run (hss : ∀ (c : Dev nD) (p : Fin 8), max (A2 m c (ix1 p)) (-(A2 m c (ix1 p))) ≤ Ideal.ofBits .f32 0x7F7FFFFF#32) :
    θ_run defs (onTc (τ := τ) (main (F := Ideal))) ⟨m, fun _ => 0, ρ⟩ (fun r => ∀ c : Dev nD,
      r.2.mem ((c.tc : Thread nD τ).loc main_v5_0) = ReferenceIdeal.Value.G6 (A0 m c) (A1 m c) (A2 m c) (A3 m c) (A4 m c) (A5 m c)
      ∧ r.2.mem ((c.tc : Thread nD τ).loc main_v5_1) = ReferenceIdeal.Value.G7 (A0 m c) (A1 m c) (A2 m c) (A3 m c) (A4 m c) (A5 m c)
      ∧ r.2.mem ((c.tc : Thread nD τ).loc main_v5_2) = ReferenceIdeal.Value.G8 (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(post6 m r h c).trans (final6 m c), (post7 m r h c).trans (final7 m hg c), (post8 m r h c).trans (final8 m hg c),
      kept0 m r h c, kept1 m r h c, kept2 m r h c, kept3 m r h c, kept4 m r h c, kept5 m r h c⟩) (run_main m ρ hss)

end

end Cert.KernelIdeal.Val

end
-- ==== Proof.lean ====
module

public import proofs.«01_k».proof.Defs
public import proofs.«01_k».proof.Proof.KernelFrame
public import proofs.«01_k».proof.Proof.KernelIdealFrame
public import proofs.«01_k».proof.Proof.Pre
public import proofs.«01_k».proof.Proof.Out
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

instance (e : EltTy) : Nonempty (Elt Bits e) := by cases e <;> exact ⟨0⟩

open Cert.KernelIdeal.Val in
/-- The kernel leaves in its three results what the reference leaves in its own. -/
theorem algebraic : Cert.algebraic_KernelIdeal_ReferenceIdeal_pre_finite := fun m g m' g' hpre he =>
  have hb := fun c => Cert.Pre_finite.Hand.ss_le (A0 m c) (A1 m c) (A2 m c) (A3 m c) (A4 m c) (A5 m c) (hpre c)
  ⟨fun c => Cert.ReferenceIdeal.Value.G6 (A0 m c) (A1 m c) (A2 m c) (A3 m c) (A4 m c) (A5 m c),
    fun c => Cert.ReferenceIdeal.Value.G7 (A0 m c) (A1 m c) (A2 m c) (A3 m c) (A4 m c) (A5 m c),
    fun c => Cert.ReferenceIdeal.Value.G8 (A0 m c) (A1 m c) (A2 m c) (A3 m c) (A4 m c) (A5 m c),
    Cert.KernelIdeal.Val.run m g (fun c => (hb c).2) (fun c => (hb c).1),
    (θ_run _ _ _).mono (fun r h c => by
      obtain ⟨h0, h1, h2, hk⟩ := h c
      obtain ⟨e0, e1, e2, e3, e4, e5⟩ := he c
      rw [e0, e1, e2, e3, e4, e5] at h0 h1 h2
      exact ⟨h0, h1, h2, hk⟩) (Cert.ReferenceIdeal.Value.run m' g')⟩

theorem claim : Cert.Claim :=
  ⟨Cert.Kernel.Gen.facts, Cert.KernelIdeal.Gen.facts, Cert.ReferenceIdeal.Gen.facts, Cert.Pre_finite.Hand.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    IdealRules.named_const.statement Cert.KernelIdeal.κ "inv_d" .f32 0x3A2AAAAB#32 _ rfl, algebraic⟩

end Cert.Proof

end
